-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_is_0_or_1 [hPre_batch_is_0_or_1 : Cert.Pre_batch_is_0_or_1.Facts] (m : (ℓ : Loc Cert.KernelIdeal.nD Cert.KernelIdeal.τ Cert.KernelIdeal.sig) → Buf (Elt Ideal) ℓ) : Prop :=
  ∀ c : Dev Cert.KernelIdeal.nD,
    (Cert.Pre_batch_is_0_or_1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_is_0_or_1 [hPre_batch_is_0_or_1 : Cert.Pre_batch_is_0_or_1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_is_0_or_1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_batch_is_0_or_1 [hKernelIdeal : Cert.KernelIdeal.Facts] [hPre_batch_is_0_or_1 : Cert.Pre_batch_is_0_or_1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_is_0_or_1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_batch_is_0_or_1 [hReferenceIdeal : Cert.ReferenceIdeal.Facts] [hPre_batch_is_0_or_1 : Cert.Pre_batch_is_0_or_1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_is_0_or_1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_batch_is_0_or_1 [hKernelIdeal : Cert.KernelIdeal.Facts] [hReferenceIdeal : Cert.ReferenceIdeal.Facts] [hPre_batch_is_0_or_1 : Cert.Pre_batch_is_0_or_1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_is_0_or_1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_batch_is_0_or_1 : Cert.Pre_batch_is_0_or_1.Facts),
    quiescent_Kernel (hKernel := hKernel)
    ∧ quiescent_KernelIdeal (hKernelIdeal := hKernelIdeal)
    ∧ quiescent_KernelIdeal_pre_batch_is_0_or_1 (hKernelIdeal := hKernelIdeal) (hPre_batch_is_0_or_1 := hPre_batch_is_0_or_1)
    ∧ quiescent_ReferenceIdeal (hReferenceIdeal := hReferenceIdeal)
    ∧ quiescent_ReferenceIdeal_pre_batch_is_0_or_1 (hReferenceIdeal := hReferenceIdeal) (hPre_batch_is_0_or_1 := hPre_batch_is_0_or_1)
    ∧ preserves_Kernel_KernelIdeal
    ∧ algebraic_KernelIdeal_ReferenceIdeal_pre_batch_is_0_or_1 (hKernelIdeal := hKernelIdeal) (hReferenceIdeal := hReferenceIdeal) (hPre_batch_is_0_or_1 := hPre_batch_is_0_or_1)
-- ==== Pre_batch_is_0_or_1.lean ====
abbrev S4x192x64x64 : Shape := ⟨4, ![4, 192, 64, 64]⟩
abbrev S512x5 : Shape := ⟨2, ![512, 5]⟩
abbrev S512x1 : Shape := ⟨2, ![512, 1]⟩
abbrev S512 : Shape := ⟨1, ![512]⟩
abbrev S_ : Shape := ⟨0, ![]⟩

class Facts : Prop where
  slices_S512x5_S512x1_0_0 : S512x5.Slices ![0, 0] S512x1
  shapeCasts_S512x1_S512 : S512x1.ShapeCasts S512
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S4x192x64x64 .f32) (main_arg1 : FVec F S512x5 .f32) : IVec S_ 1 :=
  let main_v0 : FVec F S512x1 .f32 := (extractStridedSlice S512x1 ![0, 0] · slices_S512x5_S512x1_0_0) main_arg1
  let main_v1 : FVec F S512 .f32 := shapeCast S512 main_v0 shapeCasts_S512x1_S512
  let main_v2 : FVec F S512x1 .f32 := (extractStridedSlice S512x1 ![0, 0] · slices_S512x5_S512x1_0_0) main_arg1
  let main_v3 : FVec F S512 .f32 := shapeCast S512 main_v2 shapeCasts_S512x1_S512
  let main_v4 : FVec F S512 .f32 := mulf main_v1 main_v3
  let main_cst : FVec F S_ .f32 := constant S_ .f32 0x00000000#32
  let main_v5 : FVec F S512 .f32 := broadcastInDim S512 ![] bcast_S_S512 main_cst
  let main_v6 : IVec S512 1 := cmpf .oeq main_v4 main_v5
  let main_cst_0 : FVec F S_ .f32 := constant S_ .f32 0x3F800000#32
  let main_v7 : FVec F S512 .f32 := broadcastInDim S512 ![] bcast_S_S512 main_cst_0
  let main_v8 : IVec S512 1 := cmpf .oeq main_v4 main_v7
  let main_v9 : IVec S512 1 := ori main_v6 main_v8
  let main_c : IVec S_ 1 := constantI S_ 1 1#1
  let main_v10 : IVec S_ 1 := (fun x v => Host.reduce IntOp.andi x v reducesTo_S512_S_d0 h_S_) main_v9 main_c
  main_v10
-- ==== Kernel.lean ====
abbrev S4x192x64x64 : Shape := ⟨4, ![4, 192, 64, 64]⟩
abbrev S512x5 : Shape := ⟨2, ![512, 5]⟩
abbrev S2x192x64x64 : Shape := ⟨4, ![2, 192, 64, 64]⟩
abbrev S2x64x64x192 : Shape := ⟨4, ![2, 64, 64, 192]⟩
abbrev S_ : Shape := ⟨0, ![]⟩
abbrev S2x64x64x256 : Shape := ⟨4, ![2, 64, 64, 256]⟩
abbrev S128x16384 : Shape := ⟨2, ![128, 16384]⟩
abbrev S512x128 : Shape := ⟨2, ![512, 128]⟩
abbrev S4096x1792 : Shape := ⟨2, ![4096, 1792]⟩
abbrev S16x128 : Shape := ⟨2, ![16, 128]⟩
abbrev S128x1792 : Shape := ⟨2, ![128, 1792]⟩
abbrev S16x1x128 : Shape := ⟨3, ![16, 1, 128]⟩
abbrev S16x8x128 : Shape := ⟨3, ![16, 8, 128]⟩
abbrev S128x128 : Shape := ⟨2, ![128, 128]⟩
abbrev S128x1 : Shape := ⟨2, ![128, 1]⟩
abbrev S16x8x64x256 : Shape := ⟨4, ![16, 8, 64, 256]⟩
abbrev S16x1x64x256 : Shape := ⟨4, ![16, 1, 64, 256]⟩
abbrev S16x64x256 : Shape := ⟨3, ![16, 64, 256]⟩
abbrev S16x64x1792 : Shape := ⟨3, ![16, 64, 1792]⟩
abbrev S1024x1792 : Shape := ⟨2, ![1024, 1792]⟩
abbrev S128x1024 : Shape := ⟨2, ![128, 1024]⟩
abbrev S512x8x7x256 : Shape := ⟨4, ![512, 8, 7, 256]⟩
abbrev S512x7x7x192 : Shape := ⟨4, ![512, 7, 7, 192]⟩
abbrev S512x192x7x7 : Shape := ⟨4, ![512, 192, 7, 7]⟩

abbrev nBuf : Space → Nat
  | .hbm => 16
  | .vmem => 5
  | .smem => 0
  | _ => 0

abbrev bufTy : (tb : Table) → Fin (tcTables nBuf tb) → BufTy
  | .hbm, ⟨0, _⟩ => ⟨S4x192x64x64, .f32⟩
  | .hbm, ⟨1, _⟩ => ⟨S512x5, .f32⟩
  | .hbm, ⟨2, _⟩ => ⟨S2x192x64x64, .f32⟩
  | .hbm, ⟨3, _⟩ => ⟨S2x64x64x192, .f32⟩
  | .hbm, ⟨4, _⟩ => ⟨S_, .i32⟩
  | .hbm, ⟨5, _⟩ => ⟨S_, .f32⟩
  | .hbm, ⟨6, _⟩ => ⟨S2x64x64x256, .f32⟩
  | .hbm, ⟨7, _⟩ => ⟨S128x16384, .f32⟩
  | .hbm, ⟨8, _⟩ => ⟨S128x16384, .bf16⟩
  | .hbm, ⟨9, _⟩ => ⟨S_, .i32⟩
  | .hbm, ⟨10, _⟩ => ⟨S_, .f32⟩
  | .hbm, ⟨11, _⟩ => ⟨S512x128, .f32⟩
  | .hbm, ⟨12, _⟩ => ⟨S4096x1792, .f32⟩
  | .hbm, ⟨13, _⟩ => ⟨S512x8x7x256, .f32⟩
  | .hbm, ⟨14, _⟩ => ⟨S512x7x7x192, .f32⟩
  | .hbm, ⟨15, _⟩ => ⟨S512x192x7x7, .f32⟩
  | .local _ .vmem, ⟨0, _⟩ => ⟨S16x128, .f32⟩
  | .local _ .vmem, ⟨1, _⟩ => ⟨S16x128, .f32⟩
  | .local _ .vmem, ⟨2, _⟩ => ⟨S128x16384, .bf16⟩
  | .local _ .vmem, ⟨3, _⟩ => ⟨S128x1792, .f32⟩
  | .local _ .vmem, ⟨4, _⟩ => ⟨S128x1792, .f32⟩
  | _, _ => ⟨S4x192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x192x64x64 : Shape := ⟨4, ![4, 192, 64, 64]⟩
abbrev S512x5 : Shape := ⟨2, ![512, 5]⟩
abbrev S512x1 : Shape := ⟨2, ![512, 1]⟩
abbrev S512 : Shape := ⟨1, ![512]⟩
abbrev S_ : Shape := ⟨0, ![]⟩
abbrev S7 : Shape := ⟨1, ![7]⟩
abbrev S2 : Shape := ⟨1, ![2]⟩
abbrev S512x1x1 : Shape := ⟨3, ![512, 1, 1]⟩
abbrev S1x7x1 : Shape := ⟨3, ![1, 7, 1]⟩
abbrev S512x7x1 : Shape := ⟨3, ![512, 7, 1]⟩
abbrev S1x1x2 : Shape := ⟨3, ![1, 1, 2]⟩
abbrev S512x1x2 : Shape := ⟨3, ![512, 1, 2]⟩
abbrev S512x7x2 : Shape := ⟨3, ![512, 7, 2]⟩
abbrev S512x14 : Shape := ⟨2, ![512, 14]⟩
abbrev S1 : Shape := ⟨1, ![1]⟩
abbrev S1x1 : Shape := ⟨2, ![1, 1]⟩
abbrev S512x192x64x64 : Shape := ⟨4, ![512, 192, 64, 64]⟩
abbrev S512x14x1 : Shape := ⟨3, ![512, 14, 1]⟩
abbrev S512x192x14x64 : Shape := ⟨4, ![512, 192, 14, 64]⟩
abbrev S512x192x14x14 : Shape := ⟨4, ![512, 192, 14, 14]⟩
abbrev S512x1x14 : Shape := ⟨3, ![512, 1, 14]⟩
abbrev S512x14x14 : Shape := ⟨3, ![512, 14, 14]⟩
abbrev S512x1x14x14 : Shape := ⟨4, ![512, 1, 14, 14]⟩
abbrev S512x192x7x2x14 : Shape := ⟨5, ![512, 192, 7, 2, 14]⟩
abbrev S512x192x7x14 : Shape := ⟨4, ![512, 192, 7, 14]⟩
abbrev S512x192x7x7x2 : Shape := ⟨5, ![512, 192, 7, 7, 2]⟩
abbrev S512x192x7x7 : Shape := ⟨4, ![512, 192, 7, 7]⟩
abbrev S192x7x7 : Shape := ⟨3, ![192, 7, 7]⟩

abbrev nBuf : Space → Nat
  | .hbm => 323
  | .vmem => 0
  | .smem => 0
  | _ => 0

abbrev hbmTy0_0 (i : Nat) : BufTy := match i % 128 with
  | 0 => ⟨S4x192x64x64, .f32⟩
  | 1 => ⟨S512x5, .f32⟩
  | 2 => ⟨S512x1, .f32⟩
  | 3 => ⟨S512, .f32⟩
  | 4 => ⟨S512x1, .f32⟩
  | 5 => ⟨S512, .f32⟩
  | 6 => ⟨S512, .f32⟩
  | 7 => ⟨S512, .i32⟩
  | 8 => ⟨S512x1, .f32⟩
  | 9 => ⟨S512, .f32⟩
  | 10 => ⟨S_, .f32⟩
  | 11 => ⟨S512, .f32⟩
  | 12 => ⟨S512, .f32⟩
  | 13 => ⟨S512x1, .f32⟩
  | 14 => ⟨S512, .f32⟩
  | 15 => ⟨S_, .f32⟩
  | 16 => ⟨S512, .f32⟩
  | 17 => ⟨S512, .f32⟩
  | 18 => ⟨S512x1, .f32⟩
  | 19 => ⟨S512, .f32⟩
  | 20 => ⟨S_, .f32⟩
  | 21 => ⟨S512, .f32⟩
  | 22 => ⟨S512, .f32⟩
  | 23 => ⟨S512x1, .f32⟩
  | 24 => ⟨S512, .f32⟩
  | 25 => ⟨S_, .f32⟩
  | 26 => ⟨S512, .f32⟩
  | 27 => ⟨S512, .f32⟩
  | 28 => ⟨S512, .f32⟩
  | 29 => ⟨S_, .f32⟩
  | 30 => ⟨S512, .f32⟩
  | 31 => ⟨S512, .f32⟩
  | 32 => ⟨S512, .f32⟩
  | 33 => ⟨S_, .f32⟩
  | 34 => ⟨S512, .f32⟩
  | 35 => ⟨S512, .f32⟩
  | 36 => ⟨S_, .f32⟩
  | 37 => ⟨S512, .f32⟩
  | 38 => ⟨S512, .f32⟩
  | 39 => ⟨S_, .f32⟩
  | 40 => ⟨S512, .f32⟩
  | 41 => ⟨S512, .f32⟩
  | 42 => ⟨S7, .f32⟩
  | 43 => ⟨S7, .f32⟩
  | 44 => ⟨S2, .f32⟩
  | 45 => ⟨S2, .f32⟩
  | 46 => ⟨S512x1x1, .f32⟩
  | 47 => ⟨S512x1x1, .f32⟩
  | 48 => ⟨S1x7x1, .f32⟩
  | 49 => ⟨S512x7x1, .f32⟩
  | 50 => ⟨S512x7x1, .f32⟩
  | 51 => ⟨S512x7x1, .f32⟩
  | 52 => ⟨S512x7x1, .f32⟩
  | 53 => ⟨S512x7x1, .f32⟩
  | 54 => ⟨S512x1x1, .f32⟩
  | 55 => ⟨S_, .f32⟩
  | 56 => ⟨S512x1x1, .f32⟩
  | 57 => ⟨S512x1x1, .f32⟩
  | 58 => ⟨S1x1x2, .f32⟩
  | 59 => ⟨S_, .f32⟩
  | 60 => ⟨S1x1x2, .f32⟩
  | 61 => ⟨S1x1x2, .f32⟩
  | 62 => ⟨S512x1x2, .f32⟩
  | 63 => ⟨S512x1x2, .f32⟩
  | 64 => ⟨S512x1x2, .f32⟩
  | 65 => ⟨S512x7x2, .f32⟩
  | 66 => ⟨S512x7x2, .f32⟩
  | 67 => ⟨S512x7x2, .f32⟩
  | 68 => ⟨S512x14, .f32⟩
  | 69 => ⟨S512x1x1, .f32⟩
  | 70 => ⟨S512x1x1, .f32⟩
  | 71 => ⟨S1x7x1, .f32⟩
  | 72 => ⟨S512x7x1, .f32⟩
  | 73 => ⟨S512x7x1, .f32⟩
  | 74 => ⟨S512x7x1, .f32⟩
  | 75 => ⟨S512x7x1, .f32⟩
  | 76 => ⟨S512x7x1, .f32⟩
  | 77 => ⟨S512x1x1, .f32⟩
  | 78 => ⟨S_, .f32⟩
  | 79 => ⟨S512x1x1, .f32⟩
  | 80 => ⟨S512x1x1, .f32⟩
  | 81 => ⟨S1x1x2, .f32⟩
  | 82 => ⟨S_, .f32⟩
  | 83 => ⟨S1x1x2, .f32⟩
  | 84 => ⟨S1x1x2, .f32⟩
  | 85 => ⟨S512x1x2, .f32⟩
  | 86 => ⟨S512x1x2, .f32⟩
  | 87 => ⟨S512x1x2, .f32⟩
  | 88 => ⟨S512x7x2, .f32⟩
  | 89 => ⟨S512x7x2, .f32⟩
  | 90 => ⟨S512x7x2, .f32⟩
  | 91 => ⟨S512x14, .f32⟩
  | 92 => ⟨S_, .i32⟩
  | 93 => ⟨S512, .i32⟩
  | 94 => ⟨S512, .i1⟩
  | 95 => ⟨S_, .i32⟩
  | 96 => ⟨S512, .i32⟩
  | 97 => ⟨S512, .i32⟩
  | 98 => ⟨S512, .i32⟩
  | 99 => ⟨S512x1, .i32⟩
  | 100 => ⟨S1, .i32⟩
  | 101 => ⟨S_, .i32⟩
  | 102 => ⟨S512x1, .i32⟩
  | 103 => ⟨S512x1, .i1⟩
  | 104 => ⟨S1x1, .i32⟩
  | 105 => ⟨S512x1, .i32⟩
  | 106 => ⟨S512x1, .i1⟩
  | 107 => ⟨S512x1, .i1⟩
  | 108 => ⟨S_, .i1⟩
  | 109 => ⟨S512, .i1⟩
  | 110 => ⟨S512x192x64x64, .f32⟩
  | 111 => ⟨S512x192x64x64, .i1⟩
  | 112 => ⟨S_, .f32⟩
  | 113 => ⟨S512x192x64x64, .f32⟩
  | 114 => ⟨S512x192x64x64, .f32⟩
  | 115 => ⟨S_, .f32⟩
  | 116 => ⟨S512x14, .f32⟩
  | 117 => ⟨S512x14, .i1⟩
  | 118 => ⟨S_, .f32⟩
  | 119 => ⟨S512x14, .f32⟩
  | 120 => ⟨S512x14, .i1⟩
  | 121 => ⟨S512x14, .i1⟩
  | 122 => ⟨S_, .i1⟩
  | 123 => ⟨S512, .i1⟩
  | 124 => ⟨S_, .f32⟩
  | 125 => ⟨S512x14, .f32⟩
  | 126 => ⟨S512x14, .i1⟩
  | 127 => ⟨S_, .f32⟩
  | _ => ⟨S4x192x64x64, .f32⟩

abbrev hbmTy0_1 (i : Nat) : BufTy := match i % 128 with
  | 0 => ⟨S512x14, .f32⟩
  | 1 => ⟨S512x14, .i1⟩
  | 2 => ⟨S512x14, .i1⟩
  | 3 => ⟨S_, .i1⟩
  | 4 => ⟨S512, .i1⟩
  | 5 => ⟨S512, .i1⟩
  | 6 => ⟨S_, .f32⟩
  | 7 => ⟨S_, .i32⟩
  | 8 => ⟨S_, .f32⟩
  | 9 => ⟨S512x14, .f32⟩
  | 10 => ⟨S512x14, .f32⟩
  | 11 => ⟨S_, .f32⟩
  | 12 => ⟨S512x14, .f32⟩
  | 13 => ⟨S512x14, .f32⟩
  | 14 => ⟨S_, .f32⟩
  | 15 => ⟨S_, .i32⟩
  | 16 => ⟨S_, .f32⟩
  | 17 => ⟨S512x14, .f32⟩
  | 18 => ⟨S512x14, .f32⟩
  | 19 => ⟨S_, .f32⟩
  | 20 => ⟨S512x14, .f32⟩
  | 21 => ⟨S512x14, .f32⟩
  | 22 => ⟨S512x14, .f32⟩
  | 23 => ⟨S_, .f32⟩
  | 24 => ⟨S_, .i32⟩
  | 25 => ⟨S_, .f32⟩
  | 26 => ⟨S512x14, .f32⟩
  | 27 => ⟨S512x14, .f32⟩
  | 28 => ⟨S_, .f32⟩
  | 29 => ⟨S512x14, .f32⟩
  | 30 => ⟨S512x14, .f32⟩
  | 31 => ⟨S512x14, .f32⟩
  | 32 => ⟨S_, .f32⟩
  | 33 => ⟨S_, .i32⟩
  | 34 => ⟨S_, .f32⟩
  | 35 => ⟨S512x14, .f32⟩
  | 36 => ⟨S512x14, .f32⟩
  | 37 => ⟨S_, .f32⟩
  | 38 => ⟨S512x14, .f32⟩
  | 39 => ⟨S512x14, .f32⟩
  | 40 => ⟨S_, .f32⟩
  | 41 => ⟨S512x14, .f32⟩
  | 42 => ⟨S512x14, .f32⟩
  | 43 => ⟨S_, .f32⟩
  | 44 => ⟨S_, .i32⟩
  | 45 => ⟨S_, .f32⟩
  | 46 => ⟨S512x14, .f32⟩
  | 47 => ⟨S512x14, .f32⟩
  | 48 => ⟨S_, .f32⟩
  | 49 => ⟨S512x14, .f32⟩
  | 50 => ⟨S512x14, .f32⟩
  | 51 => ⟨S_, .f32⟩
  | 52 => ⟨S512x14, .f32⟩
  | 53 => ⟨S512x14, .f32⟩
  | 54 => ⟨S_, .f32⟩
  | 55 => ⟨S_, .i32⟩
  | 56 => ⟨S_, .f32⟩
  | 57 => ⟨S512x14, .f32⟩
  | 58 => ⟨S512x14, .f32⟩
  | 59 => ⟨S_, .f32⟩
  | 60 => ⟨S512x14, .f32⟩
  | 61 => ⟨S512x14, .f32⟩
  | 62 => ⟨S512x14, .f32⟩
  | 63 => ⟨S512x14, .f32⟩
  | 64 => ⟨S_, .f32⟩
  | 65 => ⟨S512x14, .f32⟩
  | 66 => ⟨S512x14, .f32⟩
  | 67 => ⟨S_, .f32⟩
  | 68 => ⟨S512x14, .f32⟩
  | 69 => ⟨S512x14, .f32⟩
  | 70 => ⟨S512x14, .i32⟩
  | 71 => ⟨S512x14, .i32⟩
  | 72 => ⟨S512x14, .i32⟩
  | 73 => ⟨S512x14, .i32⟩
  | 74 => ⟨S_, .i32⟩
  | 75 => ⟨S512x14, .i32⟩
  | 76 => ⟨S512x14, .i1⟩
  | 77 => ⟨S_, .i32⟩
  | 78 => ⟨S512x14, .i32⟩
  | 79 => ⟨S512x14, .i32⟩
  | 80 => ⟨S512x14, .i32⟩
  | 81 => ⟨S512x14x1, .i32⟩
  | 82 => ⟨S512x192x14x64, .f32⟩
  | 83 => ⟨S_, .i32⟩
  | 84 => ⟨S512x14, .i32⟩
  | 85 => ⟨S512x14, .i1⟩
  | 86 => ⟨S_, .i32⟩
  | 87 => ⟨S512x14, .i32⟩
  | 88 => ⟨S512x14, .i32⟩
  | 89 => ⟨S512x14, .i32⟩
  | 90 => ⟨S512x14x1, .i32⟩
  | 91 => ⟨S512x192x14x14, .f32⟩
  | 92 => ⟨S_, .i32⟩
  | 93 => ⟨S512x14, .i32⟩
  | 94 => ⟨S512x14, .i1⟩
  | 95 => ⟨S_, .i32⟩
  | 96 => ⟨S512x14, .i32⟩
  | 97 => ⟨S512x14, .i32⟩
  | 98 => ⟨S512x14, .i32⟩
  | 99 => ⟨S512x14x1, .i32⟩
  | 100 => ⟨S512x192x14x64, .f32⟩
  | 101 => ⟨S_, .i32⟩
  | 102 => ⟨S512x14, .i32⟩
  | 103 => ⟨S512x14, .i1⟩
  | 104 => ⟨S_, .i32⟩
  | 105 => ⟨S512x14, .i32⟩
  | 106 => ⟨S512x14, .i32⟩
  | 107 => ⟨S512x14, .i32⟩
  | 108 => ⟨S512x14x1, .i32⟩
  | 109 => ⟨S512x192x14x14, .f32⟩
  | 110 => ⟨S_, .i32⟩
  | 111 => ⟨S512x14, .i32⟩
  | 112 => ⟨S512x14, .i1⟩
  | 113 => ⟨S_, .i32⟩
  | 114 => ⟨S512x14, .i32⟩
  | 115 => ⟨S512x14, .i32⟩
  | 116 => ⟨S512x14, .i32⟩
  | 117 => ⟨S512x14x1, .i32⟩
  | 118 => ⟨S512x192x14x64, .f32⟩
  | 119 => ⟨S_, .i32⟩
  | 120 => ⟨S512x14, .i32⟩
  | 121 => ⟨S512x14, .i1⟩
  | 122 => ⟨S_, .i32⟩
  | 123 => ⟨S512x14, .i32⟩
  | 124 => ⟨S512x14, .i32⟩
  | 125 => ⟨S512x14, .i32⟩
  | 126 => ⟨S512x14x1, .i32⟩
  | 127 => ⟨S512x192x14x14, .f32⟩
  | _ => ⟨S4x192x64x64, .f32⟩

abbrev hbmTy0_2 (i : Nat) : BufTy := match i % 128 with
  | 0 => ⟨S_, .i32⟩
  | 1 => ⟨S512x14, .i32⟩
  | 2 => ⟨S512x14, .i1⟩
  | 3 => ⟨S_, .i32⟩
  | 4 => ⟨S512x14, .i32⟩
  | 5 => ⟨S512x14, .i32⟩
  | 6 => ⟨S512x14, .i32⟩
  | 7 => ⟨S512x14x1, .i32⟩
  | 8 => ⟨S512x192x14x64, .f32⟩
  | 9 => ⟨S_, .i32⟩
  | 10 => ⟨S512x14, .i32⟩
  | 11 => ⟨S512x14, .i1⟩
  | 12 => ⟨S_, .i32⟩
  | 13 => ⟨S512x14, .i32⟩
  | 14 => ⟨S512x14, .i32⟩
  | 15 => ⟨S512x14, .i32⟩
  | 16 => ⟨S512x14x1, .i32⟩
  | 17 => ⟨S512x192x14x14, .f32⟩
  | 18 => ⟨S512x14x1, .f32⟩
  | 19 => ⟨S512x1x14, .f32⟩
  | 20 => ⟨S512x14x14, .f32⟩
  | 21 => ⟨S512x14x14, .f32⟩
  | 22 => ⟨S512x14x14, .f32⟩
  | 23 => ⟨S512x14x1, .f32⟩
  | 24 => ⟨S512x1x14, .f32⟩
  | 25 => ⟨S512x14x14, .f32⟩
  | 26 => ⟨S512x14x14, .f32⟩
  | 27 => ⟨S512x14x14, .f32⟩
  | 28 => ⟨S512x14x1, .f32⟩
  | 29 => ⟨S512x1x14, .f32⟩
  | 30 => ⟨S512x14x14, .f32⟩
  | 31 => ⟨S512x14x14, .f32⟩
  | 32 => ⟨S512x14x14, .f32⟩
  | 33 => ⟨S512x14x1, .f32⟩
  | 34 => ⟨S512x1x14, .f32⟩
  | 35 => ⟨S512x14x14, .f32⟩
  | 36 => ⟨S512x14x14, .f32⟩
  | 37 => ⟨S512x14x14, .f32⟩
  | 38 => ⟨S512x1x14x14, .f32⟩
  | 39 => ⟨S512x192x14x14, .f32⟩
  | 40 => ⟨S512x192x14x14, .f32⟩
  | 41 => ⟨S512x1x14x14, .f32⟩
  | 42 => ⟨S512x192x14x14, .f32⟩
  | 43 => ⟨S512x192x14x14, .f32⟩
  | 44 => ⟨S512x192x14x14, .f32⟩
  | 45 => ⟨S512x1x14x14, .f32⟩
  | 46 => ⟨S512x192x14x14, .f32⟩
  | 47 => ⟨S512x192x14x14, .f32⟩
  | 48 => ⟨S512x192x14x14, .f32⟩
  | 49 => ⟨S512x1x14x14, .f32⟩
  | 50 => ⟨S512x192x14x14, .f32⟩
  | 51 => ⟨S512x192x14x14, .f32⟩
  | 52 => ⟨S512x192x14x14, .f32⟩
  | 53 => ⟨S512x192x7x2x14, .f32⟩
  | 54 => ⟨S_, .f32⟩
  | 55 => ⟨S512x192x7x14, .f32⟩
  | 56 => ⟨S512x192x7x7x2, .f32⟩
  | 57 => ⟨S_, .f32⟩
  | 58 => ⟨S512x192x7x7, .f32⟩
  | 59 => ⟨S_, .f32⟩
  | 60 => ⟨S512x192x7x7, .f32⟩
  | 61 => ⟨S512x192x7x7, .f32⟩
  | 62 => ⟨S_, .f32⟩
  | 63 => ⟨S192x7x7, .f32⟩
  | 64 => ⟨S512x192x7x7, .f32⟩
  | 65 => ⟨S512x192x7x7, .i1⟩
  | 66 => ⟨S512x192x7x7, .f32⟩
  | _ => ⟨S4x192x64x64, .f32⟩

abbrev hbmTy (i : Nat) : BufTy := match i / 128 with
  | 0 => hbmTy0_0 i
  | 1 => hbmTy0_1 i
  | 2 => hbmTy0_2 i
  | _ => ⟨S4x192x64x64, .f32⟩

abbrev bufTy : (tb : Table) → Fin (tcTables nBuf tb) → BufTy
  | .hbm, ⟨i, _⟩ => hbmTy i
  | _, _ => ⟨S4x192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_8 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_9 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_10 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_call0_c : Ref sig .tc := ⟨.hbm, 92, rfl⟩
abbrev main_call0_v0 : Ref sig .tc := ⟨.hbm, 93, rfl⟩
abbrev main_call0_v1 : Ref sig .tc := ⟨.hbm, 94, rfl⟩
abbrev main_call0_c_0 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_v5 : Ref sig .tc := ⟨.hbm, 99, rfl⟩
abbrev main_call0_c_1 : Ref sig .tc := ⟨.hbm, 100, rfl⟩
abbrev main_call0_c_2 : Ref sig .tc := ⟨.hbm, 101, rfl⟩
abbrev main_call0_v6 : Ref sig .tc := ⟨.hbm, 102, rfl⟩
abbrev main_call0_v7 : Ref sig .tc := ⟨.hbm, 103, rfl⟩
abbrev main_call0_v8 : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_call0_c_3 : Ref sig .tc := ⟨.hbm, 108, rfl⟩
abbrev main_call0_v12 : Ref sig .tc := ⟨.hbm, 109, rfl⟩
abbrev main_call0_v13 : Ref sig .tc := ⟨.hbm, 110, rfl⟩
abbrev main_call0_v14 : Ref sig .tc := ⟨.hbm, 111, rfl⟩
abbrev main_call0_cst : Ref sig .tc := ⟨.hbm, 112, rfl⟩
abbrev main_call0_v15 : Ref sig .tc := ⟨.hbm, 113, rfl⟩
abbrev main_v78 : Ref sig .tc := ⟨.hbm, 114, rfl⟩
abbrev main_cst_11 : Ref sig .tc := ⟨.hbm, 115, rfl⟩
abbrev main_v79 : Ref sig .tc := ⟨.hbm, 116, rfl⟩
abbrev main_v80 : Ref sig .tc := ⟨.hbm, 117, rfl⟩
abbrev main_cst_12 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c : Ref sig .tc := ⟨.hbm, 122, rfl⟩
abbrev main_v84 : Ref sig .tc := ⟨.hbm, 123, rfl⟩
abbrev main_cst_13 : Ref sig .tc := ⟨.hbm, 124, rfl⟩
abbrev main_v85 : Ref sig .tc := ⟨.hbm, 125, rfl⟩
abbrev main_v86 : Ref sig .tc := ⟨.hbm, 126, rfl⟩
abbrev main_cst_14 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_15 : Ref sig .tc := ⟨.hbm, 131, rfl⟩
abbrev main_v90 : Ref sig .tc := ⟨.hbm, 132, rfl⟩
abbrev main_v91 : Ref sig .tc := ⟨.hbm, 133, rfl⟩
abbrev main_cst_16 : Ref sig .tc := ⟨.hbm, 134, rfl⟩
abbrev main_c_17 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_v92 : Ref sig .tc := ⟨.hbm, 141, rfl⟩
abbrev main_cst_18 : Ref sig .tc := ⟨.hbm, 142, rfl⟩
abbrev main_c_19 : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_v93 : Ref sig .tc := ⟨.hbm, 149, rfl⟩
abbrev main_v94 : Ref sig .tc := ⟨.hbm, 150, rfl⟩
abbrev main_cst_20 : Ref sig .tc := ⟨.hbm, 151, rfl⟩
abbrev main_c_21 : Ref sig .tc := ⟨.hbm, 152, rfl⟩
abbrev main_call3_v0 : Ref sig .tc := ⟨.hbm, 153, rfl⟩
abbrev main_call3_v1 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_v95 : Ref sig .tc := ⟨.hbm, 158, rfl⟩
abbrev main_v96 : Ref sig .tc := ⟨.hbm, 159, rfl⟩
abbrev main_cst_22 : Ref sig .tc := ⟨.hbm, 160, rfl⟩
abbrev main_c_23 : Ref sig .tc := ⟨.hbm, 161, rfl⟩
abbrev main_call4_v0 : Ref sig .tc := ⟨.hbm, 162, rfl⟩
abbrev main_call4_v1 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_v97 : Ref sig .tc := ⟨.hbm, 167, rfl⟩
abbrev main_cst_24 : Ref sig .tc := ⟨.hbm, 168, rfl⟩
abbrev main_v98 : Ref sig .tc := ⟨.hbm, 169, rfl⟩
abbrev main_v99 : Ref sig .tc := ⟨.hbm, 170, rfl⟩
abbrev main_cst_25 : Ref sig .tc := ⟨.hbm, 171, rfl⟩
abbrev main_c_26 : Ref sig .tc := ⟨.hbm, 172, rfl⟩
abbrev main_call5_v0 : Ref sig .tc := ⟨.hbm, 173, rfl⟩
abbrev main_call5_v1 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_v100 : Ref sig .tc := ⟨.hbm, 178, rfl⟩
abbrev main_cst_27 : Ref sig .tc := ⟨.hbm, 179, rfl⟩
abbrev main_v101 : Ref sig .tc := ⟨.hbm, 180, rfl⟩
abbrev main_v102 : Ref sig .tc := ⟨.hbm, 181, rfl⟩
abbrev main_cst_28 : Ref sig .tc := ⟨.hbm, 182, rfl⟩
abbrev main_c_29 : Ref sig .tc := ⟨.hbm, 183, rfl⟩
abbrev main_call6_v0 : Ref sig .tc := ⟨.hbm, 184, rfl⟩
abbrev main_call6_v1 : Ref sig .tc := ⟨.hbm, 185, rfl⟩
abbrev main_call6_v2 : Ref sig .tc := ⟨.hbm, 186, rfl⟩
abbrev main_call6_v3 : Ref sig .tc := ⟨.hbm, 187, rfl⟩
abbrev main_call6_v4 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_cst_30 : Ref sig .tc := ⟨.hbm, 192, rfl⟩
abbrev main_v106 : Ref sig .tc := ⟨.hbm, 193, rfl⟩
abbrev main_v107 : Ref sig .tc := ⟨.hbm, 194, rfl⟩
abbrev main_cst_31 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_c_32 : Ref sig .tc := ⟨.hbm, 202, rfl⟩
abbrev main_v114 : Ref sig .tc := ⟨.hbm, 203, rfl⟩
abbrev main_v115 : Ref sig .tc := ⟨.hbm, 204, rfl⟩
abbrev main_c_33 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_c_34 : Ref sig .tc := ⟨.hbm, 211, rfl⟩
abbrev main_v121 : Ref sig .tc := ⟨.hbm, 212, rfl⟩
abbrev main_v122 : Ref sig .tc := ⟨.hbm, 213, rfl⟩
abbrev main_c_35 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_c_36 : Ref sig .tc := ⟨.hbm, 220, rfl⟩
abbrev main_v128 : Ref sig .tc := ⟨.hbm, 221, rfl⟩
abbrev main_v129 : Ref sig .tc := ⟨.hbm, 222, rfl⟩
abbrev main_c_37 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_c_38 : Ref sig .tc := ⟨.hbm, 229, rfl⟩
abbrev main_v135 : Ref sig .tc := ⟨.hbm, 230, rfl⟩
abbrev main_v136 : Ref sig .tc := ⟨.hbm, 231, rfl⟩
abbrev main_c_39 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_c_40 : Ref sig .tc := ⟨.hbm, 238, rfl⟩
abbrev main_v142 : Ref sig .tc := ⟨.hbm, 239, rfl⟩
abbrev main_v143 : Ref sig .tc := ⟨.hbm, 240, rfl⟩
abbrev main_c_41 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_c_42 : Ref sig .tc := ⟨.hbm, 247, rfl⟩
abbrev main_v149 : Ref sig .tc := ⟨.hbm, 248, rfl⟩
abbrev main_v150 : Ref sig .tc := ⟨.hbm, 249, rfl⟩
abbrev main_c_43 : Ref sig .tc := ⟨.hbm, 250, rfl⟩
abbrev main_v151 : Ref sig .tc := ⟨.hbm, 251, rfl⟩
abbrev main_v152 : Ref sig .tc := ⟨.hbm, 252, rfl⟩
abbrev main_v153 : Ref sig .tc := ⟨.hbm, 253, rfl⟩
abbrev main_v154 : Ref sig .tc := ⟨.hbm, 254, rfl⟩
abbrev main_v155 : Ref sig .tc := ⟨.hbm, 255, rfl⟩
abbrev main_c_44 : Ref sig .tc := ⟨.hbm, 256, rfl⟩
abbrev main_v156 : Ref sig .tc := ⟨.hbm, 257, rfl⟩
abbrev main_v157 : Ref sig .tc := ⟨.hbm, 258, rfl⟩
abbrev main_c_45 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_c_46 : Ref sig .tc := ⟨.hbm, 265, rfl⟩
abbrev main_v163 : Ref sig .tc := ⟨.hbm, 266, rfl⟩
abbrev main_v164 : Ref sig .tc := ⟨.hbm, 267, rfl⟩
abbrev main_c_47 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_cst_48 : Ref sig .tc := ⟨.hbm, 310, rfl⟩
abbrev main_v206 : Ref sig .tc := ⟨.hbm, 311, rfl⟩
abbrev main_v207 : Ref sig .tc := ⟨.hbm, 312, rfl⟩
abbrev main_cst_49 : Ref sig .tc := ⟨.hbm, 313, rfl⟩
abbrev main_v208 : Ref sig .tc := ⟨.hbm, 314, rfl⟩
abbrev main_cst_50 : Ref sig .tc := ⟨.hbm, 315, rfl⟩
abbrev main_v209 : Ref sig .tc := ⟨.hbm, 316, rfl⟩
abbrev main_v210 : Ref sig .tc := ⟨.hbm, 317, rfl⟩
abbrev main_cst_51 : Ref sig .tc := ⟨.hbm, 318, rfl⟩
abbrev main_v211 : Ref sig .tc := ⟨.hbm, 319, rfl⟩
abbrev main_call7_v0 : Ref sig .tc := ⟨.hbm, 320, rfl⟩
abbrev main_call7_v1 : Ref sig .tc := ⟨.hbm, 321, rfl⟩
abbrev main_v212 : Ref sig .tc := ⟨.hbm, 322, rfl⟩

abbrev nD : Nat := 1
abbrev τ : Topo := Topo.v7x

variable {F : FTy → Type} [FloatOps F]
-- ==== Proof.Reference.Frame.lean ====
/- The reference runs to its end. -/
module

public import proofs.«01_k».proof.Defs
public import proofs.«01_k».proof.Proof.Gen.Pre_batch_is_0_or_1
public import proofs.«01_k».proof.Proof.Gen.ReferenceIdeal.Run
public import Idealize.ShloMosaic.Lib.Claim

@[expose] public section

noncomputable section

namespace Cert.RoiAlign

open Idealize.ShloMosaic Idealize.SL.Sem

/-- The reference runs, leaves its arguments as they were and its semaphores at zero: it has none. -/
theorem reference_frame : Cert.quiescent_ReferenceIdeal := fun m g _ =>
  θ_run_mono (Cert.ReferenceIdeal.Value.run m g) fun r h =>
    ⟨fun c => (h c).2, sem_eq_zero_of_no_sems (by decide) r.2⟩

/-- The same under the precondition. -/
theorem reference_frame_pre : Cert.quiescent_ReferenceIdeal_pre_batch_is_0_or_1 := fun m g _ =>
  θ_run_mono (Cert.ReferenceIdeal.Value.run m g) fun r h =>
    ⟨fun c => (h c).2, sem_eq_zero_of_no_sems (by decide) r.2⟩

end Cert.RoiAlign

end
-- ==== Proof.Sample.lean ====
/- One sample position along one axis of an image of 64 rows or columns.

   A position is an extended real. It is held to 0 … 63, which makes it a real number `pos s`; the whole part of that
   is the row or column `cell s` before it, `next s` is the one after it (63 again at the edge), and `frac s` is how
   far between the two it lies. The kernel and the reference both go through these steps, and this module says what
   each step's operation gives, so that the other modules speak of `cell`, `next` and `frac` alone. -/
module

public import Idealize.ShloMosaic.PureOps.Ideal
public import Idealize.ShloMosaic.PureOps.Ideal.Laws
public import Idealize.ShloMosaic.Lib.IdealHost
public import Idealize.ShloMosaic.Lib.Pointwise
public import Mathlib.Tactic.Linarith
public import Mathlib.Tactic.NormNum
public import Mathlib.Tactic.Push

@[expose] public section

noncomputable section

namespace Cert.RoiAlign

open Idealize.ShloMosaic

/-! ## The constants of the two programs, as real numbers -/

theorem bits_eighth : Ideal.ofBits .f32 0x3E000000#32 = ((1 / 8 : ℝ) : EReal) := by
  simp [Ideal.ofBits, Ideal.ieee, -EReal.coe_mul]; norm_num
theorem bits_quarter : Ideal.ofBits .f32 0x3E800000#32 = ((1 / 4 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_three_quarters : Ideal.ofBits .f32 0x3F400000#32 = ((3 / 4 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_four : Ideal.ofBits .f32 0x40800000#32 = ((4 : ℝ) : EReal) := by
  simp [Ideal.ofBits, Ideal.ieee, -EReal.coe_mul]; norm_num
theorem bits_last_offset : Ideal.ofBits .f32 0x40D80000#32 = ((27 / 4 : ℝ) : EReal) := by
  simp [Ideal.ofBits, Ideal.ieee, -EReal.coe_mul]; norm_num
theorem bits_seven : Ideal.ofBits .f32 0x40E00000#32 = ((7 : ℝ) : EReal) := by
  simp [Ideal.ofBits, Ideal.ieee, -EReal.coe_mul]; norm_num
theorem bits_63 : Ideal.ofBits .f32 0x427C0000#32 = ((63 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_minus_one : Ideal.ofBits .f32 0xBF800000#32 = ((-1 : ℝ) : EReal) := by
  simp [Ideal.ofBits, Ideal.ieee, -EReal.coe_mul, -EReal.coe_neg]; norm_num

/-! ## Numbers that a word holds -/

/-- A word that holds a number below 2³¹, converted to a float, is that number. -/
theorem sitofp_ofNat (n : ℕ) (h : n < 2 ^ 31) :
    FloatOps.sitofp (F := Ideal) .f32 (BitVec.ofNat 32 n) = ((n : ℝ) : EReal) := by
  show (((BitVec.ofNat 32 n).toInt : ℝ) : EReal) = _
  have e : (BitVec.ofNat 32 n).toInt = (n : ℤ) := by
    rw [BitVec.toInt_eq_toNat_of_lt] <;> rw [BitVec.toNat_ofNat] <;> omega
  rw [e]
  norm_cast

/-- A number below 2³¹, converted to an integer word, is the word that holds it. -/
theorem fptosi_natCast (n : ℕ) (h : n < 2 ^ 31) :
    FloatOps.fptosi (F := Ideal) (φ := .f32) 32 ((n : ℝ) : EReal) = BitVec.ofNat 32 n := by
  show BitVec.ofInt 32 (Ideal.toIntClamped (-(2 ^ (32 - 1) : Nat)) ((2 ^ (32 - 1) : Nat) - 1) ((n : ℝ) : EReal)) = _
  have e : Ideal.toIntClamped (-(2 ^ (32 - 1) : Nat)) ((2 ^ (32 - 1) : Nat) - 1) ((n : ℝ) : EReal) = (n : ℤ) := by
    show max _ (min _ (if 0 ≤ (n : ℝ) then ⌊(n : ℝ)⌋ else ⌈(n : ℝ)⌉)) = _
    rw [if_pos (Nat.cast_nonneg n), Int.floor_natCast]
    push_cast
    omega
  rw [e, BitVec.ofInt_natCast]

/-- A bit that says whether `p` holds, widened and converted to a float, is one or zero. -/
theorem sitofp_bit (p : Prop) [Decidable p] :
    FloatOps.sitofp (F := Ideal) .f32 (BitVec.setWidth 32 (BitVec.ofBool (decide p)))
      = ((if p then 1 else 0 : ℝ) : EReal) := by
  show (((BitVec.setWidth 32 (BitVec.ofBool (decide p))).toInt : ℝ) : EReal) = _
  by_cases h : p <;> simp [h]

/-! ## The position, the two cells and the fraction -/

/-- The position `s` held to 0 … 63. -/
def clip (s : EReal) : EReal := min ((63 : ℝ) : EReal) (max 0 s)

/-- The same as a real number. -/
def pos (s : EReal) : ℝ := (clip s).toReal

/-- The row or column at or before the position. -/
def cell (s : EReal) : ℕ := ⌊pos s⌋₊

/-- The row or column after that one, or the last one. -/
def next (s : EReal) : ℕ := min (cell s + 1) 63

/-- How far past `cell s` the position lies. -/
def frac (s : EReal) : ℝ := pos s - cell s

theorem clip_nonneg (s : EReal) : 0 ≤ clip s :=
  le_min (by exact_mod_cast (by norm_num : (0 : ℝ) ≤ 63)) (le_max_left _ _)

theorem clip_le (s : EReal) : clip s ≤ ((63 : ℝ) : EReal) := min_le_left _ _

/-- Held to 0 … 63, a position is a real number, infinite or not before. -/
theorem clip_eq (s : EReal) : clip s = ((pos s : ℝ) : EReal) := by
  refine (EReal.coe_toReal ?_ ?_).symm
  · exact ne_top_of_le_ne_top (EReal.coe_ne_top 63) (clip_le s)
  · exact ne_bot_of_le_ne_bot EReal.zero_ne_bot (clip_nonneg s)

theorem clip_bits (s : EReal) : min (Ideal.ofBits .f32 0x427C0000#32) (max 0 s) = ((pos s : ℝ) : EReal) := by
  rw [bits_63]
  exact clip_eq s

theorem pos_nonneg (s : EReal) : 0 ≤ pos s := by
  have h := clip_nonneg s
  rw [clip_eq] at h
  exact_mod_cast h

theorem pos_le (s : EReal) : pos s ≤ 63 := by
  have h := clip_le s
  rw [clip_eq] at h
  exact_mod_cast h

theorem cell_le (s : EReal) : cell s ≤ 63 := by
  have h : (cell s : ℝ) ≤ 63 := (Nat.floor_le (pos_nonneg s)).trans (pos_le s)
  exact_mod_cast h

theorem next_le (s : EReal) : next s ≤ 63 := min_le_right _ _

theorem frac_nonneg (s : EReal) : 0 ≤ frac s := sub_nonneg.2 (Nat.floor_le (pos_nonneg s))

theorem frac_le (s : EReal) : frac s ≤ 1 := by
  have h := Nat.lt_floor_add_one (pos s)
  unfold frac cell
  linarith

/-- The whole part of a position held to 0 … 63. -/
theorem floor_pos (s : EReal) : Ideal.liftRound Int.floor ((pos s : ℝ) : EReal) = ((cell s : ℝ) : EReal) := by
  show (((⌊pos s⌋ : ℤ) : ℝ) : EReal) = _
  unfold cell
  rw [← Int.natCast_floor_eq_floor (pos_nonneg s)]
  norm_cast

/-- The cell after, as the kernel reaches it: one more, and 63 at most. -/
theorem next_eq (s : EReal) :
    min (((cell s : ℝ) : EReal) + 1) (Ideal.ofBits .f32 0x427C0000#32) = ((next s : ℝ) : EReal) := by
  rw [bits_63]
  unfold next
  rw [show ((cell s : ℝ) : EReal) + 1 = (((cell s + 1 : ℕ) : ℝ) : EReal) by push_cast; norm_cast,
    show (63 : ℝ) = ((63 : ℕ) : ℝ) by norm_num]
  rcases le_total (cell s + 1) 63 with h | h
  · rw [min_eq_left h, min_eq_left (by exact_mod_cast h)]
  · rw [min_eq_right h, min_eq_right (by exact_mod_cast h)]

/-- Holding a cell to 0 … 63 changes nothing. -/
theorem clip_cell (s : EReal) :
    min (Ideal.ofBits .f32 0x427C0000#32) (max 0 ((cell s : ℝ) : EReal)) = ((cell s : ℝ) : EReal) := by
  rw [bits_63, max_eq_right (by exact_mod_cast Nat.zero_le _), min_eq_right]
  exact_mod_cast cell_le s

/-- The cell after, as the reference reaches it: one more, held to 0 … 63. -/
theorem clip_succ (s : EReal) :
    min (Ideal.ofBits .f32 0x427C0000#32) (max 0 (((cell s : ℝ) : EReal) + 1)) = ((next s : ℝ) : EReal) := by
  rw [max_eq_right, min_comm, next_eq]
  exact add_nonneg (by exact_mod_cast Nat.zero_le _) zero_le_one

/-- The fraction, as a difference of extended reals. -/
theorem frac_eq (s : EReal) : ((pos s : ℝ) : EReal) - ((cell s : ℝ) : EReal) = ((frac s : ℝ) : EReal) := by
  rw [← EReal.coe_sub]
  rfl

/-- What is left to one, as a difference of extended reals. -/
theorem one_sub_frac (s : EReal) : 1 - ((frac s : ℝ) : EReal) = ((1 - frac s : ℝ) : EReal) := by
  rw [EReal.coe_sub]
  rfl

/-! ## The weight of a row or column -/

/-- What row or column `k` weighs in the sample at `s`, where the rows or columns of the image begin at `o`: the
    fraction's complement at the cell before, the fraction at the cell after (both, where the two are the same cell),
    and nothing elsewhere. -/
def tent (o : ℕ) (s : EReal) (k : ℕ) : ℝ :=
  (1 - frac s) * (if k = o + cell s then 1 else 0) + frac s * (if k = o + next s then 1 else 0)

theorem tent_nonneg (o : ℕ) (s : EReal) (k : ℕ) : 0 ≤ tent o s k := by
  have h0 := frac_nonneg s
  have h1 := frac_le s
  unfold tent
  refine add_nonneg (mul_nonneg (by linarith) ?_) (mul_nonneg h0 ?_) <;> split <;> norm_num

end Cert.RoiAlign

end
-- ==== Proof.Cover.lean ====
/- When a box's samples lie in the image, along one axis.

   A box begins at `y` along the axis and is cut into seven bins of length `b`; each bin has two samples, a quarter and
   three quarters into it. The reference tests every one of the fourteen samples against −1 … 64; the kernel tests the
   first and the last alone. This module shows that the two tests agree, whatever extended real `y` is, and that a box
   that passes has `y` and `b` real, so that the two ways of writing a sample's position give the same number. -/
module

public import proofs.«01_k».proof.Proof.Sample

@[expose] public section

noncomputable section

namespace Cert.RoiAlign

open Idealize.ShloMosaic

/-- Where a box begins along an axis, in rows or columns of the image: an eighth of the coordinate. -/
def start (lo : EReal) : EReal := lo * ((1 / 8 : ℝ) : EReal)

/-- The length of a bin along an axis: a seventh of the box's length, which counts as one at least. -/
def bin (lo hi : EReal) : EReal := Ideal.div (max (start hi - start lo) 1) ((7 : ℝ) : EReal)

/-- The position `o` bins into the bin `p`, as the kernel writes it. -/
def place (y b : EReal) (p : ℕ) (o : ℝ) : EReal := y + b * ((p + o : ℝ) : EReal)

/-- The position of sample `i` of bin `p`, as the reference writes it. -/
def sample (y b : EReal) (p i : ℕ) : EReal :=
  y + b * ((p : ℝ) : EReal) + Ideal.div b ((2 : ℝ) : EReal) * ((i + 1 / 2 : ℝ) : EReal)

/-- The kernel's test: the last sample is not past 64, the first not before −1. -/
def Covered (y b : EReal) : Prop :=
  y + ((27 / 4 : ℝ) : EReal) * b ≤ ((64 : ℝ) : EReal) ∧ ((-1 : ℝ) : EReal) ≤ y + ((1 / 4 : ℝ) : EReal) * b

/-- A bin's length is positive. -/
theorem bin_pos (lo hi : EReal) : 0 < bin lo hi := by
  unfold bin
  rw [Ideal.div_coe (by norm_num)]
  refine EReal.mul_pos (lt_of_lt_of_le zero_lt_one (le_max_right _ _)) ?_
  exact_mod_cast (by norm_num : (0 : ℝ) < 1 / 7)

/-- For a real box, the sample written the reference's way is a real number. -/
theorem sample_coe (y b : ℝ) (p i : ℕ) :
    sample (y : EReal) (b : EReal) p i = ((y + b * p + b / 2 * (i + 1 / 2) : ℝ) : EReal) := by
  unfold sample
  rw [Ideal.div_coe (by norm_num), ← EReal.coe_mul, ← EReal.coe_mul, ← EReal.coe_mul, ← EReal.coe_add, ← EReal.coe_add]
  congr 1
  ring

/-- For a real box, so is the sample written the kernel's way. -/
theorem place_coe (y b : ℝ) (p : ℕ) (o : ℝ) :
    place (y : EReal) (b : EReal) p o = ((y + b * (p + o) : ℝ) : EReal) := by
  unfold place
  rw [← EReal.coe_mul, ← EReal.coe_add]

/-- A bin of infinite length puts every sample at the far infinity, unless the box begins at the near one. -/
theorem sample_top (y : EReal) (hy : y ≠ ⊥) (p i : ℕ) : sample y ⊤ p i = ⊤ := by
  unfold sample
  have e : (0 : ℝ) < i + 1 / 2 := by positivity
  rw [Ideal.div_coe (by norm_num), EReal.top_mul_coe_of_pos (x := 1 / 2) (by norm_num), EReal.top_mul_coe_of_pos e]
  refine EReal.add_top_of_ne_bot ?_
  refine EReal.add_ne_bot_iff.2 ⟨hy, ?_⟩
  rcases Nat.eq_zero_or_pos p with h | h
  · subst h
    simp
  · rw [EReal.top_mul_coe_of_pos (by exact_mod_cast h)]
    exact top_ne_bot

/-- A box that passes the kernel's test is a real one. -/
theorem covered_real (y b : EReal) (hb : 0 < b) (h : Covered y b) : (∃ r : ℝ, y = (r : EReal)) ∧ ∃ r : ℝ, b = (r : EReal) := by
  obtain ⟨h1, h2⟩ := h
  induction y using EReal.rec with
  | bot =>
    rw [EReal.bot_add, le_bot_iff] at h2
    exact absurd h2 (EReal.coe_ne_bot _)
  | top =>
    rw [EReal.top_add_of_ne_bot] at h1
    · exact absurd h1 (by simp)
    · refine ne_of_gt (lt_of_lt_of_le EReal.bot_lt_zero (mul_nonneg ?_ hb.le))
      exact_mod_cast (by norm_num : (0 : ℝ) ≤ 27 / 4)
  | coe y =>
    refine ⟨⟨y, rfl⟩, ?_⟩
    induction b using EReal.rec with
    | bot => exact absurd hb (by simp)
    | top =>
      rw [EReal.coe_mul_top_of_pos (by norm_num)] at h1
      exact absurd h1 (by simp)
    | coe b => exact ⟨b, rfl⟩

/-- If every sample is in range, the box is real. -/
theorem sample_real (y b : EReal) (hb : 0 < b)
    (h : ((-1 : ℝ) : EReal) ≤ sample y b 0 0 ∧ sample y b 0 0 ≤ ((64 : ℝ) : EReal)) :
    (∃ r : ℝ, y = (r : EReal)) ∧ ∃ r : ℝ, b = (r : EReal) := by
  obtain ⟨h2, h1⟩ := h
  by_cases hy : y = ⊥
  · subst hy
    unfold sample at h2
    rw [EReal.bot_add, EReal.bot_add, le_bot_iff] at h2
    exact absurd h2 (EReal.coe_ne_bot _)
  induction b using EReal.rec with
  | bot => exact absurd hb (by simp)
  | top =>
    rw [sample_top y hy] at h1
    exact absurd h1 (by simp)
  | coe b =>
    refine ⟨?_, b, rfl⟩
    induction y using EReal.rec with
    | bot => exact absurd rfl hy
    | coe y => exact ⟨y, rfl⟩
    | top =>
      unfold sample at h1
      rw [Ideal.div_coe (by norm_num), ← EReal.coe_mul, ← EReal.coe_mul, ← EReal.coe_mul, EReal.top_add_coe, EReal.top_add_coe] at h1
      exact absurd h1 (by simp)

/-- The kernel's test of the first and the last sample agrees with the reference's test of all fourteen. -/
theorem covered_iff (y b : EReal) (hb : 0 < b) :
    Covered y b ↔ ∀ (p : Fin 7) (i : Fin 2),
      ((-1 : ℝ) : EReal) ≤ sample y b p i ∧ sample y b p i ≤ ((64 : ℝ) : EReal) := by
  constructor
  · intro h
    obtain ⟨⟨y, rfl⟩, b, rfl⟩ := covered_real y b hb h
    obtain ⟨h1, h2⟩ := h
    rw [← EReal.coe_mul, ← EReal.coe_add] at h1 h2
    have h1 : y + 27 / 4 * b ≤ 64 := by exact_mod_cast h1
    have h2 : -1 ≤ y + 1 / 4 * b := by exact_mod_cast h2
    have hb : 0 < b := by exact_mod_cast hb
    intro p i
    rw [sample_coe]
    have hp : (p.val : ℝ) ≤ 6 := by exact_mod_cast Nat.le_of_lt_succ p.isLt
    have hi : (i.val : ℝ) ≤ 1 := by exact_mod_cast Nat.le_of_lt_succ i.isLt
    have hp' : (0 : ℝ) ≤ p.val := Nat.cast_nonneg _
    have hi' : (0 : ℝ) ≤ i.val := Nat.cast_nonneg _
    constructor
    · exact EReal.coe_le_coe_iff.2 (by nlinarith [mul_nonneg hb.le hp', mul_nonneg hb.le hi'])
    · exact EReal.coe_le_coe_iff.2
        (by nlinarith [mul_nonneg hb.le (sub_nonneg.2 hp), mul_nonneg hb.le (sub_nonneg.2 hi)])
  · intro h
    obtain ⟨⟨y, rfl⟩, b, rfl⟩ := sample_real y b hb (h 0 0)
    have h1 := (h 6 1).2
    have h2 := (h 0 0).1
    rw [sample_coe] at h1 h2
    have h1 := EReal.coe_le_coe_iff.1 h1
    have h2 := EReal.coe_le_coe_iff.1 h2
    unfold Covered
    rw [← EReal.coe_mul, ← EReal.coe_mul, ← EReal.coe_add, ← EReal.coe_add, EReal.coe_le_coe_iff, EReal.coe_le_coe_iff]
    norm_num at h1 h2
    constructor <;> linarith

/-- In a box that passes the test, the first sample of a bin lies a quarter into it. -/
theorem sample_zero (y b : EReal) (hb : 0 < b) (h : Covered y b) (p : ℕ) : sample y b p 0 = place y b p (1 / 4) := by
  obtain ⟨⟨y, rfl⟩, b, rfl⟩ := covered_real y b hb h
  rw [sample_coe, place_coe]
  congr 1
  push_cast
  ring

/-- In a box that passes the test, the second sample of a bin lies three quarters into it. -/
theorem sample_one (y b : EReal) (hb : 0 < b) (h : Covered y b) (p : ℕ) : sample y b p 1 = place y b p (3 / 4) := by
  obtain ⟨⟨y, rfl⟩, b, rfl⟩ := covered_real y b hb h
  rw [sample_coe, place_coe]
  congr 1
  push_cast
  ring

end Cert.RoiAlign

end
-- ==== Proof.Block.Fields.lean ====
/- The fields of a box, as one block of the kernel reads them.

   A block holds sixteen boxes; every field is repeated over eight rows, one for each bin along an axis and one to
   spare. Row `8 q + p` of a field is the field of box `q`. -/
module

public import proofs.«01_k».proof.Proof.Cover
public import proofs.«01_k».proof.Proof.Gen.KernelIdeal.Frame
public import Idealize.ShloMosaic.Lib.WordArith
public import Idealize.ShloMosaic.Lib.Pointwise

@[expose] public section

set_option maxRecDepth 16384

noncomputable section

namespace Cert.RoiAlign

open Idealize.ShloMosaic Cert.KernelIdeal Cert.KernelIdeal.Gen

variable (x0 : Vec Ideal S16x128 .f32) (q : Fin 16) (p : Fin 8)

/-- Row `p` of box `q`, among the block's 128 rows. -/
abbrev boxRow (q : Fin 16) (p : Fin 8) : Fin 128 := ⟨q.val * 8 + p.val, by omega⟩

/-- The square of the image number. -/
theorem field_image : k0_pay3 x0 (ix2 (boxRow q p) 0) = x0 (ix2 q 0) * x0 (ix2 q 0) := by
  pointwise [k0_pay3, k0_pay2]

/-- Where the box begins along the columns. -/
theorem field_left : k0_pay4 x0 (ix2 (boxRow q p) 0) = start (x0 (ix2 q 1)) := by
  pointwise [k0_pay4, k0_pay2]
  simp only [bits_eighth, start]

/-- Where the box begins along the rows. -/
theorem field_top : k0_pay5 x0 (ix2 (boxRow q p) 0) = start (x0 (ix2 q 2)) := by
  pointwise [k0_pay5, k0_pay2]
  simp only [bits_eighth, start]

/-- The length of a bin along the columns. -/
theorem field_width : k0_pay6 x0 (ix2 (boxRow q p) 0) = bin (x0 (ix2 q 1)) (x0 (ix2 q 3)) := by
  pointwise [k0_pay6, k0_pay4, k0_pay2]
  simp only [bits_eighth, bits_seven, start, bin]

/-- The length of a bin along the rows. -/
theorem field_height : k0_pay7 x0 (ix2 (boxRow q p) 0) = bin (x0 (ix2 q 2)) (x0 (ix2 q 4)) := by
  pointwise [k0_pay7, k0_pay5, k0_pay2]
  simp only [bits_eighth, bits_seven, start, bin]

open Classical in
/-- The test bit says whether the box passes along both axes. -/
theorem field_covered :
    k0_pay10 (k0_pay4 x0) (k0_pay6 x0) (k0_pay8 x0) (k0_pay9 x0) (ix2 (boxRow q p) 0)
      = BitVec.ofBool (decide (Covered (start (x0 (ix2 q 2))) (bin (x0 (ix2 q 2)) (x0 (ix2 q 4)))
          ∧ Covered (start (x0 (ix2 q 1))) (bin (x0 (ix2 q 1)) (x0 (ix2 q 3))))) := by
  have e1 := field_left x0 q p
  have e2 := field_top x0 q p
  have e3 := field_width x0 q p
  have e4 := field_height x0 q p
  pointwise [k0_pay10, k0_pay8, k0_pay9]
  simp only [e1, e2, e3, e4, bits_last_offset, bits_64, bits_quarter, bits_minus_one, WordArith.andi_ofBool, Covered]
  congr 1
  rw [Bool.eq_iff_iff]
  simp only [Bool.and_eq_true, decide_eq_true_eq, and_assoc]

end Cert.RoiAlign

end
-- ==== Proof.Block.Rows.lean ====
/- The matrix of row weights of one block.

   Row `r` of the matrix belongs to the bin `r mod 8` of a box; its entry `k` is what row `k` of the two stacked images
   weighs in the two samples of the bin, before and after it is halved or masked. -/
module

public import proofs.«01_k».proof.Proof.Block.Fields

@[expose] public section

set_option maxRecDepth 16384

noncomputable section

namespace Cert.RoiAlign

open Idealize.ShloMosaic Cert.KernelIdeal Cert.KernelIdeal.Gen

/-- The bin that a row of a block belongs to, as a number. -/
theorem bin_of_row (r : Fin 128) :
    FloatOps.sitofp (F := Ideal) .f32 (IntOp.andi (BitVec.ofNat 32 r.val) 7#32) = (((r.val % 8 : ℕ) : ℝ) : EReal) := by
  have e : ∀ r : Fin 128, IntOp.andi (BitVec.ofNat 32 r.val) 7#32 = BitVec.ofNat 32 (r.val % 8) := by decide +kernel
  rw [e, sitofp_ofNat _ (by omega)]

/-- A row of the stacked images, compared with a row `c` of image `B`. -/
theorem image_row (k B c : ℕ) : (((k : ℝ) : EReal) = ((B * 64 + c : ℝ) : EReal)) ↔ k = B * 64 + c := by
  rw [EReal.coe_eq_coe_iff]
  exact_mod_cast Iff.rfl

/-- The kernel's words for a sample's position. -/
theorem place_fold (y b : EReal) (p : ℕ) (o : ℝ) : y + b * ((p + o : ℝ) : EReal) = place y b p o := rfl

/-- The bin number compared with seven. -/
theorem bin_lt_seven (n : ℕ) : (((n : ℝ) : EReal) < ((7 : ℝ) : EReal)) ↔ n < 7 := by
  rw [EReal.coe_lt_coe_iff]
  exact_mod_cast Iff.rfl

/-- One bit, joined with the bit that says whether `p` holds. -/
theorem andi_bit (b : BitVec 1) (p : Prop) [Decidable p] (x y : EReal) :
    Scalar.select (IntOp.andi b (BitVec.ofBool (decide p))) x y = if b = 1#1 ∧ p then x else y := by
  rcases (by decide : ∀ b : BitVec 1, b = 0#1 ∨ b = 1#1) b with rfl | rfl <;> by_cases h : p <;>
    simp [h, Scalar.select, IntOp.andi]

/-- An entry of the matrix of row weights, where the box lies in image `B`: half of what the row weighs in the two
    samples of the bin, if the box passes the test and the row of the matrix belongs to one of the seven bins, and
    zero otherwise. -/
theorem rows_apply (v7 v13 v29 : FVec Ideal S128x1 .f32) (v52 : IVec S128x1 1) (r k : Fin 128) (B : ℕ)
    (hB : v7 (ix2 r 0) = ((B : ℝ) : EReal)) :
    k0_pay21 v7 v52 (k0_pay11 (F := Ideal)) (k0_pay12 (F := Ideal)) (k0_pay13 (F := Ideal)) (k0_pay15 v13 v29)
        (k0_pay16 v13 v29) (k0_pay17 v13 v29) (k0_pay18 v13 v29) (k0_pay19 v13 v29) (k0_pay20 v13 v29)
        (Scalar.ofBits .f32 0x3F800000#32) (ix2 r k)
      = if v52 (ix2 r 0) = 1#1 ∧ r.val % 8 < 7 then
          (((tent (B * 64) (place (v13 (ix2 r 0)) (v29 (ix2 r 0)) (r.val % 8) (1 / 4)) k
            + tent (B * 64) (place (v13 (ix2 r 0)) (v29 (ix2 r 0)) (r.val % 8) (3 / 4)) k) * (1 / 2) : ℝ) : EReal)
        else 0 := by
  pointwise [k0_pay21, k0_pay11, k0_pay12, k0_pay13, k0_pay15, k0_pay16, k0_pay17, k0_pay18, k0_pay19, k0_pay20, k0_pay14]
  simp only [bin_of_row, bits_quarter, bits_three_quarters, ← EReal.coe_add, place_fold, clip_bits, floor_pos, next_eq,
    frac_eq, one_sub_frac, hB, bits_64, bits_half, bits_seven, sitofp_ofNat k.val (by omega), image_row, sitofp_bit,
    ← EReal.coe_mul, bin_lt_seven, tent, ← add_assoc]
  exact andi_bit _ _ _ _

end Cert.RoiAlign

end
-- ==== Proof.Block.Columns.lean ====
/- The matrix of column weights of one block.

   Row `r` of the matrix belongs to the bin `r mod 8` of box `r / 8`; its entry at `64 q + x` is what column `x` of the
   image weighs in the two samples of the bin, if `q` is that box, and zero for the other boxes. -/
module

public import proofs.«01_k».proof.Proof.Block.Rows

@[expose] public section

set_option maxRecDepth 16384

noncomputable section

namespace Cert.RoiAlign

open Idealize.ShloMosaic Cert.KernelIdeal Cert.KernelIdeal.Gen

/-- The column of the image that a column of the matrix stands for, as a number. -/
theorem column_of_entry (k : Fin 1024) :
    FloatOps.sitofp (F := Ideal) .f32 (IntOp.andi (BitVec.ofNat 32 k.val) 63#32) = (((k.val % 64 : ℕ) : ℝ) : EReal) := by
  have e : ∀ k : Fin 1024, IntOp.andi (BitVec.ofNat 32 k.val) 63#32 = BitVec.ofNat 32 (k.val % 64) := by decide +kernel
  rw [e, sitofp_ofNat _ (by omega)]

/-- Two columns of the image compared. -/
theorem column_eq (k c : ℕ) : (((k : ℝ) : EReal) = ((c : ℝ) : EReal)) ↔ k = 0 + c := by
  rw [EReal.coe_eq_coe_iff, Nat.zero_add]
  exact_mod_cast Iff.rfl

/-- What a column of the image weighs in the two samples of the bin. -/
theorem columns_apply (v10 v24 : FVec Ideal S128x1 .f32) (r : Fin 128) (k : Fin 1024) :
    k0_pay31 v10 v24 (k0_pay23 (F := Ideal)) (k0_pay24 (F := Ideal)) (k0_pay25 (F := Ideal)) (k0_pay27 v10 v24)
        (k0_pay28 v10 v24) (k0_pay29 v10 v24) (k0_pay30 (F := Ideal)) (ix2 r k)
      = ((tent 0 (place (v10 (ix2 r 0)) (v24 (ix2 r 0)) (r.val % 8) (1 / 4)) (k.val % 64)
            + tent 0 (place (v10 (ix2 r 0)) (v24 (ix2 r 0)) (r.val % 8) (3 / 4)) (k.val % 64) : ℝ) : EReal) := by
  pointwise [k0_pay31, k0_pay23, k0_pay24, k0_pay25, k0_pay26, k0_pay27, k0_pay28, k0_pay29, k0_pay30]
  simp only [bin_of_row, column_of_entry, bits_quarter, bits_three_quarters, ← EReal.coe_add, place_fold, clip_bits,
    floor_pos, next_eq, frac_eq, one_sub_frac, column_eq, sitofp_bit, ← EReal.coe_mul, tent, ← add_assoc]

/-- The eighth of a row of the matrix and the sixty-fourth of a column name the same box or two. -/
theorem same_box (r : Fin 128) (k : Fin 1024) :
    IntOp.cmpi .eq (IntOp.shrsi .vector (BitVec.ofNat 32 r.val) 3#32) (IntOp.shrsi .vector (BitVec.ofNat 32 k.val) 6#32)
      = BitVec.ofBool (decide (r.val / 8 = k.val / 64)) := by
  have e1 : ∀ r : Fin 128, IntOp.shrsi .vector (BitVec.ofNat 32 r.val) 3#32 = BitVec.ofNat 32 (r.val / 8) := by
    decide +kernel
  have e2 : ∀ k : Fin 1024, IntOp.shrsi .vector (BitVec.ofNat 32 k.val) 6#32 = BitVec.ofNat 32 (k.val / 64) := by
    decide +kernel
  have e3 : ∀ a b : Fin 16, IntOp.cmpi .eq (BitVec.ofNat 32 a.val) (BitVec.ofNat 32 b.val)
      = BitVec.ofBool (decide (a.val = b.val)) := by decide +kernel
  rw [e1, e2]
  exact e3 ⟨r.val / 8, by omega⟩ ⟨k.val / 64, by omega⟩

/-- The mask's bit: the entry belongs to the row's box, and the row to one of the seven bins. -/
theorem mask_apply (r : Fin 128) (k : Fin 1024) :
    k0_pay32 (iota .tc S128x1024 32 [0] iota_S128x1024_d0_w32) (iota .tc S128x1024 32 [1] iota_S128x1024_d1_w32)
        (k0_pay23 (F := Ideal)) (ix2 r k)
      = BitVec.ofBool (decide (r.val / 8 = k.val / 64 ∧ r.val % 8 < 7)) := by
  pointwise [k0_pay32, k0_pay23]
  simp only [same_box, bin_of_row, bits_seven, bin_lt_seven, WordArith.andi_ofBool, Bool.decide_and]

end Cert.RoiAlign

end
-- ==== Proof.Block.Value.lean ====
/- What one block of the kernel computes.

   Row `8 q + j` and column `256 p + e` of a block's result is bin (`p`, `j`) of box `q` at channel `e`: the two
   samples' weights of the columns, applied to the two samples' weights of the rows, applied to the image, each
   halved; or zero, if the box does not pass the test. -/
module

public import proofs.«01_k».proof.Proof.Block.Columns
public import Idealize.ShloMosaic.Lib.Pipeline.ValueKit

@[expose] public section

set_option maxRecDepth 16384

noncomputable section

namespace Cert.RoiAlign

open Idealize.ShloMosaic Cert.KernelIdeal Cert.KernelIdeal.Gen

/-- The product by the row weights, laid out anew: its rows are the columns of the image for each box, its columns the
    bins along the rows with their channels. -/
theorem rows_product (v : FVec Ideal S128x128 .f32) (x : Vec Ideal S128x16384 .bf16) (q : Fin 16) (i : Fin 64)
    (p : Fin 7) (e : Fin 256) :
    k0_pay22 v x (ix2 ⟨q.val * 64 + i.val, by omega⟩ ⟨p.val * 256 + e.val, by omega⟩)
      = ∑ k : Fin 128, v (ix2 (boxRow q ⟨p.val, by omega⟩) k) * x (ix2 k ⟨i.val * 256 + e.val, by omega⟩) := by
  pointwise [k0_pay22]
  have step : ∀ (a : Fin 128) (b : Fin 16384), a.val = q.val * 8 + p.val → b.val = i.val * 256 + e.val →
      ∑ k : Fin 128, v (ix2 a k) * x (ix2 k b)
        = ∑ k : Fin 128, v (ix2 (boxRow q ⟨p.val, by omega⟩) k) * x (ix2 k ⟨i.val * 256 + e.val, by omega⟩) := by
    intro a b ha hb
    rw [show a = boxRow q ⟨p.val, by omega⟩ from Fin.ext ha, show b = ⟨i.val * 256 + e.val, by omega⟩ from Fin.ext hb]
  split_ifs <;> exact step _ _ (by dsimp only; omega) (by dsimp only; omega)

/-- The product by the column weights, halved where the mask's bit is set and zero elsewhere. -/
theorem columns_product (v161 : FVec Ideal S1024x1792 .bf16) (v226 : FVec Ideal S128x1024 .f32) (v234 : IVec S128x1024 1)
    (r : Fin 128) (n : Fin 1792) :
    k0_pay1 v161 v226 v234 (k0_pay33 (F := Ideal)) (k0_pay34 (F := Ideal)) (ix2 r n)
      = ∑ k : Fin 1024, if v234 (ix2 r k) = 1#1 then v226 (ix2 r k) * ((1 / 2 : ℝ) : EReal) * v161 (ix2 k n) else 0 := by
  pointwise [k0_pay1, k0_pay33, k0_pay34]
  simp only [bits_half]
  rfl

/-- A sum over the sixteen boxes' columns in which one box's alone are not zero. -/
theorem sum_one_box (q : Fin 16) (f : Fin 1024 → EReal) (hf : ∀ k : Fin 1024, q.val ≠ k.val / 64 → f k = 0) :
    ∑ k : Fin 1024, f k = ∑ x : Fin 64, f ⟨q.val * 64 + x.val, by omega⟩ := by
  symm
  refine Finset.sum_of_injOn (fun x : Fin 64 => (⟨q.val * 64 + x.val, by omega⟩ : Fin 1024)) ?_ ?_ ?_ ?_
  · intro a _ b _ h
    have := congrArg Fin.val h
    exact Fin.ext (by simpa using this)
  · exact fun _ _ => Finset.mem_coe.2 (Finset.mem_univ _)
  · intro k _ hk
    refine hf k fun h => hk ⟨⟨k.val % 64, by omega⟩, Finset.mem_coe.2 (Finset.mem_univ _), Fin.ext ?_⟩
    show q.val * 64 + k.val % 64 = k.val
    omega
  · exact fun _ _ => rfl

open Classical in
/-- The value of bin (`p`, `j`) of a box as the kernel computes it, where the rows of the box's image begin at row `o`
    of `D`: the weights of the columns applied to the weights of the rows applied to the image, if the box passes the
    test along both axes, and zero otherwise. -/
def pooled (o : ℕ) (left top right bottom : EReal) (D : Fin 128 → Fin 64 → EReal) (p j : ℕ) : EReal :=
  if Covered (start top) (bin top bottom) ∧ Covered (start left) (bin left right) then
    ∑ x : Fin 64, (((tent 0 (place (start left) (bin left right) j (1 / 4)) x
          + tent 0 (place (start left) (bin left right) j (3 / 4)) x) * (1 / 2) : ℝ) : EReal)
      * ∑ k : Fin 128, (((tent o (place (start top) (bin top bottom) p (1 / 4)) k
          + tent o (place (start top) (bin top bottom) p (3 / 4)) k) * (1 / 2) : ℝ) : EReal) * D k x
  else 0

/-- What one block stores for bin (`p`, `j`) of box `q` at channel `e`, where the square of the box's image number is
    `B`. -/
theorem block_apply (x0 : Vec Ideal S16x128 .f32) (x1 : Vec Ideal S128x16384 .bf16) (q : Fin 16) (p j : Fin 7)
    (e : Fin 256) (B : ℕ) (hB : x0 (ix2 q 0) * x0 (ix2 q 0) = ((B : ℝ) : EReal)) :
    out0_2 x0 x1 (ix2 (boxRow q ⟨j.val, by omega⟩) ⟨p.val * 256 + e.val, by omega⟩)
      = pooled (B * 64) (x0 (ix2 q 1)) (x0 (ix2 q 2)) (x0 (ix2 q 3)) (x0 (ix2 q 4))
          (fun k x => x1 (ix2 k ⟨x.val * 256 + e.val, by omega⟩)) p j := by
  classical
  have hj : (q.val * 8 + j.val) % 8 = j.val := by omega
  have hp : (q.val * 8 + p.val) % 8 = p.val := by omega
  have hq : (q.val * 8 + j.val) / 8 = q.val := by omega
  unfold_out out0_2
  rw [View.ld_unit_lit inb_S16x128_S16x128_0_0 x0 (by decide),
    View.ld_unit_lit inb_S128x16384_S128x16384_0_0 x1 (by decide),
    View.canon_cons_unit_lit inb_S128x1792_S128x1792_0_0 _ _ (by decide), columns_product, sum_one_box q]
  · unfold pooled
    simp only [columns_apply, rows_product, field_left, field_width]
    have hx : ∀ x : Fin 64, (q.val * 64 + x.val) % 64 = x.val := fun x => by omega
    have hx' : ∀ x : Fin 64, (q.val * 64 + x.val) / 64 = q.val := fun x => by omega
    have hm : ∀ x : Fin 64, k0_pay32 (iota .tc S128x1024 32 [0] iota_S128x1024_d0_w32)
        (iota .tc S128x1024 32 [1] iota_S128x1024_d1_w32) (k0_pay23 (F := Ideal))
        (ix2 (boxRow q ⟨j.val, by omega⟩) ⟨q.val * 64 + x.val, by omega⟩) = 1#1 := by
      intro x
      rw [mask_apply]
      simp only [hq, hx', hj, j.isLt, and_self, decide_true]
      decide
    have hr : ∀ k : Fin 128, _ := fun k => rows_apply (k0_pay3 x0) (k0_pay5 x0) (k0_pay7 x0)
      (k0_pay10 (k0_pay4 x0) (k0_pay6 x0) (k0_pay8 x0) (k0_pay9 x0)) (boxRow q ⟨p.val, by omega⟩) k B
      ((field_image x0 q _).trans hB)
    simp only [field_covered, field_top, field_height, hp, p.isLt, and_true] at hr
    by_cases hc : Covered (start (x0 (ix2 q 2))) (bin (x0 (ix2 q 2)) (x0 (ix2 q 4)))
        ∧ Covered (start (x0 (ix2 q 1))) (bin (x0 (ix2 q 1)) (x0 (ix2 q 3)))
    · rw [if_pos hc]
      have hb : BitVec.ofBool (decide (Covered (start (x0 (ix2 q 2))) (bin (x0 (ix2 q 2)) (x0 (ix2 q 4)))
        ∧ Covered (start (x0 (ix2 q 1))) (bin (x0 (ix2 q 1)) (x0 (ix2 q 3))))) = 1#1 := by
        rw [decide_eq_true hc]
        rfl
      simp only [hb, if_true] at hr
      refine Finset.sum_congr rfl fun x _ => ?_
      rw [if_pos (hm x), ← EReal.coe_mul, hj, hx]
      exact congrArg _ (Finset.sum_congr rfl fun k _ => congrArg (· * _) (hr k))
    · rw [if_neg hc]
      have hb : BitVec.ofBool (decide (Covered (start (x0 (ix2 q 2))) (bin (x0 (ix2 q 2)) (x0 (ix2 q 4)))
        ∧ Covered (start (x0 (ix2 q 1))) (bin (x0 (ix2 q 1)) (x0 (ix2 q 3))))) ≠ 1#1 := by
        rw [decide_eq_false hc]
        decide
      simp only [hb, if_false] at hr
      refine Finset.sum_eq_zero fun x _ => ?_
      rw [if_pos (hm x), Finset.sum_eq_zero, mul_zero]
      exact fun k _ => (congrArg (· * _) (hr k)).trans (zero_mul _)
  · intro k hk
    rw [mask_apply, if_neg]
    simp only [hq, hk, false_and, decide_false]
    decide

end Cert.RoiAlign

end
-- ==== Proof.Array.Blocks.lean ====
/- What the kernel's array holds, and where the kernel's result and its operands lie.

   The pipeline runs over 32 blocks of 16 boxes. This module reads a block of each operand at its place in the array,
   states the array that the pipeline leaves, and reads the host's operations before and after it: the images padded
   and laid out by columns, the fields of the boxes padded, and the result taken out of the array. -/
module

public import proofs.«01_k».proof.Proof.Block.Value
public import Idealize.ShloMosaic.Lib.StableHlo.ReadAt

@[expose] public section

set_option maxRecDepth 16384

noncomputable section

namespace Cert.RoiAlign

open Idealize.ShloMosaic Idealize.SL.Sem Cert.KernelIdeal Cert.KernelIdeal.Gen

variable (m : (ℓ : Loc nD τ sig) → Buf (Elt Ideal) ℓ) (c : Dev nD)

/-- Field `k` of box `r`, as the kernel is given it. -/
def boxField (r : Fin 512) (k : Fin 5) : EReal := m (c.tc.loc main_arg1) (ix2 r k)

/-- Where each operand's block lies at point `t`. -/
theorem block_index : ∀ t : Fin cfg0.N, win0_0.index t 0 = t.val ∧ win0_0.index t 1 = 0 ∧ win0_1.index t 0 = 0
    ∧ win0_1.index t 1 = 0 ∧ win0_2.index t 0 = t.val ∧ win0_2.index t 1 = 0 := by decide +kernel

/-- The boxes of block `t`. -/
theorem boxes_block (t : Fin cfg0.N) (q : Fin 16) (k : Fin 128) :
    iblk m c 0 t (ix2 q k) = V m c main_v5 (ix2 ⟨t.val * 16 + q.val, by have : t.val < 32 := t.isLt; omega⟩ k) := by
  obtain ⟨h1, h2, h3, h4, h5, h6⟩ := block_index t
  blk_ext [iblk]
  all_goals omega

/-- The images, whole in every block. -/
theorem images_block (t : Fin cfg0.N) (k : Fin 128) (n : Fin 16384) :
    iblk m c 1 t (ix2 k n) = V m c main_v4 (ix2 k n) := by
  obtain ⟨h1, h2, h3, h4, h5, h6⟩ := block_index t
  blk_ext [iblk]
  all_goals omega

/-- The block that row `n` of the array lies in. -/
abbrev blockOf (n : Fin 4096) : Fin cfg0.N := ⟨n.val / 128, by show _ < 32; omega⟩

/-- The array that the pipeline leaves: each row as its block's body stored it. -/
def stored : Vec Ideal S4096x1792 .f32 := fun y =>
  out0_2 (iblk m c 0 (blockOf (y 0))) (iblk m c 1 (blockOf (y 0))) (ix2 ⟨(y 0).val % 128, by omega⟩ (y 1))

/-- The pipeline leaves that array. -/
theorem array_eq : (dats m 0 c).arrAt 2 cfg0.N = stored m c := by
  refine (dats m 0 c).arrAt_eq_of_covers 2 _ (by decide +kernel) fun t hf y => ?_
  blk_simp
  rw [after0_2]
  obtain ⟨h1, h2, h3, h4, h5, h6⟩ := block_index t
  have hy : (y 0).val < 128 := (y 0).isLt
  have e0 : (((win0_2.blk t).view.emb y) 0).val = t.val * 128 + (y 0).val := by blk_simp; omega
  have e1 : (((win0_2.blk t).view.emb y) 1).val = (y 1).val := by blk_simp; omega
  have step : ∀ (t' : Fin cfg0.N) (z : S128x1792.Idx), t' = t → z = y →
      out0_2 (iblk m c 0 t) (iblk m c 1 t) y = out0_2 (iblk m c 0 t') (iblk m c 1 t') z := by
    rintro _ _ rfl rfl
    rfl
  refine step _ _ (Fin.ext ?_) (funext fun a => ?_)
  · show (((win0_2.blk t).view.emb y) 0).val / 128 = t.val
    omega
  · match a with
    | 0 => exact Fin.ext (show (((win0_2.blk t).view.emb y) 0).val % 128 = (y 0).val by omega)
    | 1 => exact Fin.ext e1

/-- The operand of the images: row `y` of image `b`, and column `x` at channel `e`. -/
theorem images_apply (b : Fin 2) (y x : Fin 64) (e : Fin 192) :
    V m c main_v4 (ix2 ⟨b.val * 64 + y.val, by omega⟩ ⟨x.val * 256 + e.val, by omega⟩)
      = m (c.tc.loc main_arg0) (ix4 ⟨b.val, by omega⟩ e y x) := by
  have h1 : (b.val * 64 + y.val) / 64 = b.val := by omega
  have h2 : (b.val * 64 + y.val) % 64 = y.val := by omega
  have h3 : (x.val * 256 + e.val) / 256 = x.val := by omega
  have h4 : (x.val * 256 + e.val) % 256 = e.val := by omega
  unfold V V0
  after_reads_at
  rw [dif_pos (by omega)]
  simp only [h1, h2, h3, h4]

/-- The operand of the boxes: their five fields. -/
theorem boxes_apply (r : Fin 512) (k : Fin 5) :
    V m c main_v5 (ix2 r ⟨k.val, by omega⟩) = boxField m c r k := by
  unfold V V0
  after_reads_at
  rfl

/-- The result at box `r`, channel `e` and bin (`p`, `j`) is the array's row `8 r + j` and column `256 p + e`. -/
theorem result_apply (r : Fin 512) (e : Fin 192) (p j : Fin 7) :
    Pipeline.afterTail₀ cfgs (dats m) 0 (V0 m) [hostOps1] c main_v9 (ix4 r e p j)
      = stored m c (ix2 ⟨r.val * 8 + j.val, by omega⟩ ⟨p.val * 256 + e.val, by omega⟩) := by
  rw [← array_eq]
  unfold Pipeline.afterTail₀
  after_reads_at
  exact congrFun (Pipeline.withArrays_arr spec0 (by decide) c (V0 m c) (fun w => (dats m 0 c).arrAt w cfg0.N) 2) _

/-- The channel `e` of the two stacked images. -/
def channel (e : Fin 192) (k : Fin 128) (x : Fin 64) : EReal := V m c main_v4 (ix2 k ⟨x.val * 256 + e.val, by omega⟩)

/-- The kernel's result at box `r`, channel `e` and bin (`p`, `j`), where the square of the box's image number is `B`. -/
theorem kernel_value (r : Fin 512) (e : Fin 192) (p j : Fin 7) (B : ℕ)
    (hB : boxField m c r 0 * boxField m c r 0 = ((B : ℝ) : EReal)) :
    Pipeline.afterTail₀ cfgs (dats m) 0 (V0 m) [hostOps1] c main_v9 (ix4 r e p j)
      = pooled (B * 64) (boxField m c r 1) (boxField m c r 2)
          (boxField m c r 3) (boxField m c r 4) (channel m c e) p j := by
  rw [result_apply]
  have field : ∀ k : Fin 5, iblk m c 0 (blockOf ⟨r.val * 8 + j.val, by omega⟩)
      (ix2 ⟨r.val % 16, by omega⟩ ⟨k.val, by omega⟩) = boxField m c r k := by
    intro k
    rw [boxes_block, ← boxes_apply m c r k]
    refine congrArg (V m c main_v5) (congrArg (ix2 · _) (Fin.ext ?_))
    show (r.val * 8 + j.val) / 128 * 16 + r.val % 16 = r.val
    omega
  have key := block_apply (iblk m c 0 (blockOf ⟨r.val * 8 + j.val, by omega⟩))
    (iblk m c 1 (blockOf ⟨r.val * 8 + j.val, by omega⟩)) ⟨r.val % 16, by omega⟩ p j ⟨e.val, by omega⟩ B
    (by rw [show iblk m c 0 (blockOf ⟨r.val * 8 + j.val, by omega⟩) (ix2 ⟨r.val % 16, by omega⟩ 0) = _ from field 0]; exact hB)
  rw [show iblk m c 0 (blockOf ⟨r.val * 8 + j.val, by omega⟩) (ix2 ⟨r.val % 16, by omega⟩ 1) = _ from field 1,
    show iblk m c 0 (blockOf ⟨r.val * 8 + j.val, by omega⟩) (ix2 ⟨r.val % 16, by omega⟩ 2) = _ from field 2,
    show iblk m c 0 (blockOf ⟨r.val * 8 + j.val, by omega⟩) (ix2 ⟨r.val % 16, by omega⟩ 3) = _ from field 3,
    show iblk m c 0 (blockOf ⟨r.val * 8 + j.val, by omega⟩) (ix2 ⟨r.val % 16, by omega⟩ 4) = _ from field 4] at key
  simp only [images_block] at key
  refine Eq.trans ?_ key
  refine congrArg (out0_2 _ _) (congrArg (ix2 · _) (Fin.ext ?_))
  show (r.val * 8 + j.val) % 128 = r.val % 16 * 8 + j.val
  omega

end Cert.RoiAlign

end
-- ==== Proof.Blend.lean ====
/- The weighted sums of the kernel and of the reference, over any image values.

   The kernel multiplies the image by a matrix of weights, first along the rows and then along the columns; in each
   row of weights two samples put at most four entries. The reference picks the four neighbours of each of the four
   samples of a bin, weighs them, adds them and divides by four. This module shows that the two are the same number.
   The image's values are extended reals and the weights are real numbers that are not negative, so a weight may be
   distributed over a sum. -/
module

public import proofs.«01_k».proof.Proof.Sample
public import Mathlib.Tactic.Abel

@[expose] public section

noncomputable section

namespace Cert.RoiAlign

open Idealize.ShloMosaic

/-- A real weight that is not negative distributes over a sum of extended reals. -/
theorem coe_mul_add (a : ℝ) (ha : 0 ≤ a) (x y : EReal) : (a : EReal) * (x + y) = a * x + a * y :=
  EReal.left_distrib_of_nonneg_of_ne_top (by exact_mod_cast ha) (EReal.coe_ne_top a) x y

/-- A sum of real weights that are not negative distributes over a value. -/
theorem coe_add_mul (a b : ℝ) (ha : 0 ≤ a) (hb : 0 ≤ b) (x : EReal) : ((a + b : ℝ) : EReal) * x = a * x + b * x := by
  rw [EReal.coe_add]
  exact EReal.right_distrib_of_nonneg (by exact_mod_cast ha) (by exact_mod_cast hb)

/-- Two real weights, one after the other, are their product. -/
theorem coe_mul_mul (a b : ℝ) (x : EReal) : (a : EReal) * ((b : EReal) * x) = ((a * b : ℝ) : EReal) * x := by
  rw [← mul_assoc, EReal.coe_mul]

/-- A weight that stands at one place picks the value there. -/
theorem sum_single {n : ℕ} (w : ℝ) (k₀ : ℕ) (h : k₀ < n) (D : Fin n → EReal) :
    ∑ k : Fin n, ((w * (if k.val = k₀ then 1 else 0) : ℝ) : EReal) * D k = (w : EReal) * D ⟨k₀, h⟩ := by
  rw [Finset.sum_eq_single (⟨k₀, h⟩ : Fin n)]
  · simp
  · intro k _ hk
    have : k.val ≠ k₀ := fun e => hk (Fin.ext e)
    simp [this]
  · exact fun hk => absurd (Finset.mem_univ _) hk

/-- The value at the position `s`, between the two cells it lies between. -/
def lerp {n : ℕ} (o : ℕ) (ho : o + 63 < n) (s : EReal) (D : Fin n → EReal) : EReal :=
  ((1 - frac s : ℝ) : EReal) * D ⟨o + cell s, by have := cell_le s; omega⟩
    + ((frac s : ℝ) : EReal) * D ⟨o + next s, by have := next_le s; omega⟩

/-- One sample's weights, summed over a row or a column, give the value at the sample. -/
theorem sum_tent {n : ℕ} (o : ℕ) (ho : o + 63 < n) (s : EReal) (D : Fin n → EReal) :
    ∑ k : Fin n, ((tent o s k : ℝ) : EReal) * D k = lerp o ho s D := by
  have h0 := frac_nonneg s
  have h1 : 0 ≤ 1 - frac s := sub_nonneg.2 (frac_le s)
  unfold lerp
  rw [← sum_single (1 - frac s) (o + cell s) (by have := cell_le s; omega) D,
    ← sum_single (frac s) (o + next s) (by have := next_le s; omega) D, ← Finset.sum_add_distrib]
  refine Finset.sum_congr rfl fun k _ => ?_
  unfold tent
  refine coe_add_mul _ _ (mul_nonneg h1 ?_) (mul_nonneg h0 ?_) _ <;> split <;> norm_num

/-- The weights of a bin's two samples, halved, give half the sum of the two values. -/
theorem sum_pair {n : ℕ} (o : ℕ) (ho : o + 63 < n) (s t : EReal) (D : Fin n → EReal) :
    ∑ k : Fin n, (((tent o s k + tent o t k) * (1 / 2) : ℝ) : EReal) * D k
      = ((1 / 2 : ℝ) : EReal) * (lerp o ho s D + lerp o ho t D) := by
  rw [← sum_tent, ← sum_tent, ← Finset.sum_add_distrib]
  have e : ∀ k : Fin n, (((tent o s k + tent o t k) * (1 / 2) : ℝ) : EReal) * D k
      = ((1 / 2 : ℝ) : EReal) * (((tent o s k : ℝ) : EReal) * D k + ((tent o t k : ℝ) : EReal) * D k) := by
    intro k
    rw [← coe_add_mul _ _ (tent_nonneg o s k) (tent_nonneg o t k), coe_mul_mul, mul_comm (1 / 2 : ℝ)]
  rw [Finset.sum_congr rfl fun k _ => e k]
  induction (Finset.univ : Finset (Fin n)) using Finset.induction_on with
  | empty => simp
  | insert a s ha ih =>
    rw [Finset.sum_insert ha, Finset.sum_insert ha, ih]
    exact (coe_mul_add _ (by norm_num) _ _).symm

/-- The reference's four weighted neighbours of the sample at row `s`, column `t`. -/
def corners {n m : ℕ} (o : ℕ) (ho : o + 63 < n) (o' : ℕ) (ho' : o' + 63 < m) (s t : EReal)
    (D : Fin n → Fin m → EReal) : EReal :=
  ((1 - frac s : ℝ) : EReal) * ((1 - frac t : ℝ) : EReal)
      * D ⟨o + cell s, by have := cell_le s; omega⟩ ⟨o' + cell t, by have := cell_le t; omega⟩
    + ((1 - frac s : ℝ) : EReal) * ((frac t : ℝ) : EReal)
      * D ⟨o + cell s, by have := cell_le s; omega⟩ ⟨o' + next t, by have := next_le t; omega⟩
    + ((frac s : ℝ) : EReal) * ((1 - frac t : ℝ) : EReal)
      * D ⟨o + next s, by have := next_le s; omega⟩ ⟨o' + cell t, by have := cell_le t; omega⟩
    + ((frac s : ℝ) : EReal) * ((frac t : ℝ) : EReal)
      * D ⟨o + next s, by have := next_le s; omega⟩ ⟨o' + next t, by have := next_le t; omega⟩

/-- Between the columns of the values between the rows: the four neighbours, weighed. -/
theorem lerp_lerp {n m : ℕ} (o : ℕ) (ho : o + 63 < n) (o' : ℕ) (ho' : o' + 63 < m) (s t : EReal)
    (D : Fin n → Fin m → EReal) :
    lerp o' ho' t (fun x => lerp o ho s fun y => D y x) = corners o ho o' ho' s t D := by
  have h0 := frac_nonneg t
  have h1 : 0 ≤ 1 - frac t := sub_nonneg.2 (frac_le t)
  unfold lerp corners
  rw [coe_mul_add _ h1, coe_mul_add _ h0, ← mul_assoc, ← mul_assoc, ← mul_assoc, ← mul_assoc]
  simp only [mul_comm (((1 - frac t : ℝ)) : EReal), mul_comm ((frac t : ℝ) : EReal) ((1 - frac s : ℝ) : EReal),
    mul_comm ((frac t : ℝ) : EReal) ((frac s : ℝ) : EReal)]
  abel

/-- The values between two columns, of a sum and of a halved sum. -/
theorem lerp_half_add {n : ℕ} (o : ℕ) (ho : o + 63 < n) (t : EReal) (D E : Fin n → EReal) :
    lerp o ho t (fun x => ((1 / 2 : ℝ) : EReal) * (D x + E x))
      = ((1 / 2 : ℝ) : EReal) * (lerp o ho t D + lerp o ho t E) := by
  have h0 := frac_nonneg t
  have h1 : 0 ≤ 1 - frac t := sub_nonneg.2 (frac_le t)
  have hh : (0 : ℝ) ≤ 1 / 2 := by norm_num
  unfold lerp
  simp only [coe_mul_add _ h1, coe_mul_add _ h0, coe_mul_add _ hh, coe_mul_mul]
  simp only [mul_comm _ (1 / 2 : ℝ)]
  abel

/-- THE EQUATION OF THE WEIGHTED SUMS: the kernel's product by the weights of the rows and of the columns is the
    reference's sum of the four samples of the bin, divided by four. -/
theorem blend {n m : ℕ} (o : ℕ) (ho : o + 63 < n) (o' : ℕ) (ho' : o' + 63 < m) (s : Fin 2 → EReal) (t : Fin 2 → EReal)
    (D : Fin n → Fin m → EReal) :
    ∑ x : Fin m, (((tent o' (t 0) x + tent o' (t 1) x) * (1 / 2) : ℝ) : EReal)
        * ∑ y : Fin n, (((tent o (s 0) y + tent o (s 1) y) * (1 / 2) : ℝ) : EReal) * D y x
      = Ideal.div (∑ j : Fin 2, ∑ i : Fin 2, corners o ho o' ho' (s i) (t j) D) ((4 : ℝ) : EReal) := by
  have hh : (0 : ℝ) ≤ 1 / 2 := by norm_num
  rw [Finset.sum_congr rfl fun x _ => by rw [sum_pair o ho (s 0) (s 1) fun y => D y x],
    sum_pair o' ho' (t 0) (t 1), lerp_half_add, lerp_half_add, lerp_lerp, lerp_lerp, lerp_lerp, lerp_lerp,
    ← coe_mul_add _ hh, coe_mul_mul, Ideal.div_coe (by norm_num), mul_comm _ ((1 / 4 : ℝ) : EReal)]
  simp only [Fin.sum_univ_two]
  norm_num

end Cert.RoiAlign

end
-- ==== Proof.Reference.Gather.lean ====
/- What the reference's three gathers read.

   The reference takes, for each region, the image that the region names, then for each of its fourteen row
   positions one row of that image, then for each of its fourteen column positions one column. Each of the three
   statements below says which element of the operand an element of the result is: the index that is looked up is
   read as a signed integer and held to the operand's range. -/
module

public import proofs.«01_k».proof.Proof.Gen.ReferenceIdeal
public import Idealize.ShloMosaic.Lib.Pointwise

@[expose] public section

set_option maxRecDepth 16384

noncomputable section

namespace Cert.RoiAlign

open Idealize.ShloMosaic Cert.ReferenceIdeal Cert.ReferenceIdeal.Gen

section Axes

variable {s si t : Shape} (d : GatherDims s si t)

/-- On an operand axis that a result axis `k` runs along, the offset is the result's coordinate on `k`. -/
theorem offset_of_axis (j : t.Idx) (a : Fin s.rank) (k : Fin t.rank) (ha : a ∈ d.sKept)
    (hk : d.offsetDims[d.sKept.idxOf a]? = some k) : d.offCoord j a = (j k).val := by
  unfold GatherDims.offCoord
  rw [dif_pos ha]
  obtain ⟨_, h⟩ := List.getElem?_eq_some_iff.1 hk
  rw [h]

/-- On a batching axis of the operand whose partner among the index array's axes is the result's axis `k`, the
    batch coordinate is the result's coordinate on `k`. -/
theorem batch_of_axis (j : t.Idx) (a : Fin s.rank) (b : Fin si.rank) (k : Fin t.rank) (ha : a ∈ d.operandBatchingDims)
    (hb : d.startIndicesBatchingDims[d.operandBatchingDims.idxOf a]? = some b)
    (hk : d.batchDims[d.siKept.idxOf b]? = some k) : d.batchCoord j a = (j k).val := by
  unfold GatherDims.batchCoord
  rw [dif_pos ha]
  obtain ⟨_, rfl⟩ := List.getElem?_eq_some_iff.1 hb
  obtain ⟨_, h⟩ := List.getElem?_eq_some_iff.1 hk
  simp only [GatherDims.siCoord, Fin.val_cast]
  rw [h]

end Axes

/-- Taking images: region `r`'s image is the one its index names, held to 0 … 3. -/
theorem take_image {α : Type} (x : S4x192x64x64.Idx → α) (idx : IVec S512x1 32) (r : Fin 512) (c : Fin 192)
    (y z : Fin 64) :
    Host.gather gather_S4x192x64x64_S512x1_S512x192x64x64_123_0_n_n_0_1_11926464 x idx (ix4 r c y z)
      = x (ix4 ⟨min (idx (ix2 r 0)).toInt.toNat 3, by omega⟩ c y z) := by
  unfold Host.gather
  congr 1
  funext a
  apply Fin.ext
  set g := gather_S4x192x64x64_S512x1_S512x192x64x64_123_0_n_n_0_1_11926464 with hg
  show g.start _ _ a + g.batchCoord _ a + g.offCoord _ a = _
  fin_cases a
  · rw [g.batchCoord_eq_zero _ _ (by decide), g.offCoord_eq_zero _ _ (by decide)]
    unfold GatherDims.start
    rw [dif_pos (by decide)]
    have h : g.siIdx (ix4 r c y z) ⟨0, by decide⟩ = ix2 r 0 := by
      funext b
      fin_cases b <;> rfl
    erw [h]
    rfl
  · rw [g.batchCoord_eq_zero _ _ (by decide), offset_of_axis g _ _ 1 (by decide) (by decide)]
    unfold GatherDims.start
    rw [dif_neg (by decide)]
    exact Nat.zero_add _
  · rw [g.batchCoord_eq_zero _ _ (by decide), offset_of_axis g _ _ 2 (by decide) (by decide)]
    unfold GatherDims.start
    rw [dif_neg (by decide)]
    exact Nat.zero_add _
  · rw [g.batchCoord_eq_zero _ _ (by decide), offset_of_axis g _ _ 3 (by decide) (by decide)]
    unfold GatherDims.start
    rw [dif_neg (by decide)]
    exact Nat.zero_add _

/-- Taking rows: row `j` of region `r`'s result is the row that its index names, held to 0 … 63. -/
theorem take_row {α : Type} (x : S512x192x64x64.Idx → α) (idx : IVec S512x14x1 32) (r : Fin 512) (c : Fin 192)
    (j : Fin 14) (z : Fin 64) :
    Host.gather gather_S512x192x64x64_S512x14x1_S512x192x14x64_13_2_0_0_2_2_1192164 x idx (ix4 r c j z)
      = x (ix4 r c ⟨min (idx (ix3 r j 0)).toInt.toNat 63, by omega⟩ z) := by
  unfold Host.gather
  congr 1
  funext a
  apply Fin.ext
  set g := gather_S512x192x64x64_S512x14x1_S512x192x14x64_13_2_0_0_2_2_1192164 with hg
  show g.start _ _ a + g.batchCoord _ a + g.offCoord _ a = _
  fin_cases a
  · rw [g.start_batching _ _ _ (by decide), g.offCoord_eq_zero _ _ (by decide),
      batch_of_axis g _ _ 0 0 (by decide) (by decide) (by decide)]
    exact Nat.zero_add _
  · rw [g.batchCoord_eq_zero _ _ (by decide), offset_of_axis g _ _ 1 (by decide) (by decide)]
    unfold GatherDims.start
    rw [dif_neg (by decide)]
    exact Nat.zero_add _
  · rw [g.batchCoord_eq_zero _ _ (by decide), g.offCoord_eq_zero _ _ (by decide)]
    unfold GatherDims.start
    rw [dif_pos (by decide)]
    have h : g.siIdx (ix4 r c j z) ⟨0, by decide⟩ = ix3 r j 0 := by
      funext b
      fin_cases b <;> rfl
    erw [h]
    rfl
  · rw [g.batchCoord_eq_zero _ _ (by decide), offset_of_axis g _ _ 3 (by decide) (by decide)]
    unfold GatherDims.start
    rw [dif_neg (by decide)]
    exact Nat.zero_add _

/-- Taking columns: column `i` of region `r`'s result is the column that its index names, held to 0 … 63. -/
theorem take_column {α : Type} (x : S512x192x14x64.Idx → α) (idx : IVec S512x14x1 32) (r : Fin 512) (c : Fin 192)
    (j i : Fin 14) :
    Host.gather gather_S512x192x14x64_S512x14x1_S512x192x14x14_12_3_0_0_3_2_1192141 x idx (ix4 r c j i)
      = x (ix4 r c j ⟨min (idx (ix3 r i 0)).toInt.toNat 63, by omega⟩) := by
  unfold Host.gather
  congr 1
  funext a
  apply Fin.ext
  set g := gather_S512x192x14x64_S512x14x1_S512x192x14x14_12_3_0_0_3_2_1192141 with hg
  show g.start _ _ a + g.batchCoord _ a + g.offCoord _ a = _
  fin_cases a
  · rw [g.start_batching _ _ _ (by decide), g.offCoord_eq_zero _ _ (by decide),
      batch_of_axis g _ _ 0 0 (by decide) (by decide) (by decide)]
    exact Nat.zero_add _
  · rw [g.batchCoord_eq_zero _ _ (by decide), offset_of_axis g _ _ 1 (by decide) (by decide)]
    unfold GatherDims.start
    rw [dif_neg (by decide)]
    exact Nat.zero_add _
  · rw [g.batchCoord_eq_zero _ _ (by decide), offset_of_axis g _ _ 2 (by decide) (by decide)]
    unfold GatherDims.start
    rw [dif_neg (by decide)]
    exact Nat.zero_add _
  · rw [g.batchCoord_eq_zero _ _ (by decide), g.offCoord_eq_zero _ _ (by decide)]
    unfold GatherDims.start
    rw [dif_pos (by decide)]
    have h : g.siIdx (ix4 r c j i) ⟨0, by decide⟩ = ix3 r i 0 := by
      funext b
      fin_cases b <;> rfl
    erw [h]
    rfl

end Cert.RoiAlign

end
-- ==== Proof.Reference.Samples.lean ====
/- The reference's samples: their positions, their cells and their fractions.

   Along each axis a box has fourteen samples; sample `n` is sample `n mod 2` of bin `n / 2`. -/
module

public import proofs.«01_k».proof.Proof.Cover
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.RoiAlign

open Idealize.ShloMosaic Idealize.SL.Sem Cert.ReferenceIdeal Cert.ReferenceIdeal.Value

variable (V0 : Valuation τ sig (Elt Ideal)) (r : Fin 512)

/-- Field `k` of box `r`, as the reference is given it. -/
def refField (k : Fin 5) : EReal := V0 (Proc.devRef .tc main_arg1) (ix2 r k)

/-- The position along the rows of sample `n`. -/
def rowSample (n : Fin 14) : EReal :=
  sample (start (refField V0 r 2)) (bin (refField V0 r 2) (refField V0 r 4)) (n.val / 2) (n.val % 2)

/-- The position along the columns of sample `n`. -/
def columnSample (n : Fin 14) : EReal :=
  sample (start (refField V0 r 1)) (bin (refField V0 r 1) (refField V0 r 3)) (n.val / 2) (n.val % 2)

/-- Where the box begins along the rows. -/
theorem ref_top : res_main_v13 V0 (ix1 r) = start (refField V0 r 2) := by
  unfold res_main_v13
  clean_types
  pointwise
  simp only [bits_eighth, start, refField]

/-- Where the box begins along the columns. -/
theorem ref_left : res_main_v9 V0 (ix1 r) = start (refField V0 r 1) := by
  unfold res_main_v9
  clean_types
  pointwise
  simp only [bits_eighth, start, refField]

/-- The length of a bin along the rows. -/
theorem ref_height : res_main_v29 V0 (ix1 r) = bin (refField V0 r 2) (refField V0 r 4) := by
  have e := ref_top V0 r
  unfold res_main_v29
  clean_types
  pointwise
  simp only [e, bits_eighth, bits_seven, start, bin, refField]

/-- The length of a bin along the columns. -/
theorem ref_width : res_main_v31 V0 (ix1 r) = bin (refField V0 r 1) (refField V0 r 3) := by
  have e := ref_left V0 r
  unfold res_main_v31
  clean_types
  pointwise
  simp only [e, bits_eighth, bits_seven, start, bin, refField]

/-- The positions along the rows. -/
theorem ref_row_sample (n : Fin 14) : res_main_v56 V0 (ix2 r n) = rowSample V0 r n := by
  have e1 := ref_top V0 r
  have e2 := ref_height V0 r
  unfold res_main_v56
  clean_types
  pointwise
  simp only [e1, e2, sitofp_ofNat (n.val / 2) (by omega), sitofp_ofNat (n.val % 2) (by omega), bits_two, bits_half,
    ← EReal.coe_add, rowSample, sample]

/-- The positions along the columns. -/
theorem ref_column_sample (n : Fin 14) : res_main_v77 V0 (ix2 r n) = columnSample V0 r n := by
  have e1 := ref_left V0 r
  have e2 := ref_width V0 r
  unfold res_main_v77
  clean_types
  pointwise
  simp only [e1, e2, sitofp_ofNat (n.val / 2) (by omega), sitofp_ofNat (n.val % 2) (by omega), bits_two, bits_half,
    ← EReal.coe_add, columnSample, sample]

/-- The word 63 as a float. -/
theorem sitofp_63 : FloatOps.sitofp (F := Ideal) .f32 63#32 = ((63 : ℝ) : EReal) := by
  have e := sitofp_ofNat 63 (by norm_num)
  push_cast at e
  exact e

/-- The positions along the rows, held to 0 … 63. -/
theorem ref_row_pos (n : Fin 14) : res_main_v92 V0 (ix2 r n) = ((pos (rowSample V0 r n) : ℝ) : EReal) := by
  have e := ref_row_sample V0 r n
  unfold res_main_v92
  clean_types
  pointwise
  simp only [e, id_eq, sitofp_63]
  pointwise
  exact clip_eq _

/-- The cells before them. -/
theorem ref_row_cell (n : Fin 14) : res_main_v95 V0 (ix2 r n) = ((cell (rowSample V0 r n) : ℝ) : EReal) := by
  have e := ref_row_pos V0 r n
  unfold res_main_v95
  clean_types
  pointwise
  simp only [e, id_eq, sitofp_63]
  pointwise
  rw [floor_pos, ← bits_63]
  exact clip_cell _

/-- How far past them the samples lie. -/
theorem ref_row_frac (n : Fin 14) : res_main_v104 V0 (ix2 r n) = ((frac (rowSample V0 r n) : ℝ) : EReal) := by
  have e1 := ref_row_pos V0 r n
  have e2 := ref_row_cell V0 r n
  unfold res_main_v104
  clean_types
  pointwise
  rw [e1, e2, frac_eq]

/-- What is left to one. -/
theorem ref_row_rest (n : Fin 14) : res_main_v107 V0 (ix2 r n) = ((1 - frac (rowSample V0 r n) : ℝ) : EReal) := by
  have e := ref_row_frac V0 r n
  unfold res_main_v107
  clean_types
  pointwise
  rw [e, one_sub_frac]

/-- The word of the cell before. -/
theorem ref_row_cell_word (n : Fin 14) : res_main_v110 V0 (ix2 r n) = BitVec.ofNat 32 (cell (rowSample V0 r n)) := by
  have e := ref_row_cell V0 r n
  unfold res_main_v110
  clean_types
  pointwise
  rw [e]
  exact fptosi_natCast _ (by have := cell_le (rowSample V0 r n); omega)

/-- The word of the cell after. -/
theorem ref_row_next_word (n : Fin 14) : res_main_v112 V0 (ix2 r n) = BitVec.ofNat 32 (next (rowSample V0 r n)) := by
  have e := ref_row_cell V0 r n
  unfold res_main_v112
  clean_types
  pointwise
  simp only [e, id_eq, sitofp_63]
  pointwise
  rw [← bits_63, clip_succ]
  exact fptosi_natCast _ (by have := next_le (rowSample V0 r n); omega)

/-- The positions along the columns, held to 0 … 63. -/
theorem ref_column_pos (n : Fin 14) : res_main_v93 V0 (ix2 r n) = ((pos (columnSample V0 r n) : ℝ) : EReal) := by
  have e := ref_column_sample V0 r n
  unfold res_main_v93
  clean_types
  pointwise
  simp only [e, id_eq, sitofp_63]
  pointwise
  exact clip_eq _

/-- The cells before them. -/
theorem ref_column_cell (n : Fin 14) : res_main_v97 V0 (ix2 r n) = ((cell (columnSample V0 r n) : ℝ) : EReal) := by
  have e := ref_column_pos V0 r n
  unfold res_main_v97
  clean_types
  pointwise
  simp only [e, id_eq, sitofp_63]
  pointwise
  rw [floor_pos, ← bits_63]
  exact clip_cell _

/-- How far past them the samples lie. -/
theorem ref_column_frac (n : Fin 14) : res_main_v105 V0 (ix2 r n) = ((frac (columnSample V0 r n) : ℝ) : EReal) := by
  have e1 := ref_column_pos V0 r n
  have e2 := ref_column_cell V0 r n
  unfold res_main_v105
  clean_types
  pointwise
  rw [e1, e2, frac_eq]

/-- What is left to one. -/
theorem ref_column_rest (n : Fin 14) : res_main_v109 V0 (ix2 r n) = ((1 - frac (columnSample V0 r n) : ℝ) : EReal) := by
  have e := ref_column_frac V0 r n
  unfold res_main_v109
  clean_types
  pointwise
  rw [e, one_sub_frac]

/-- The word of the cell before. -/
theorem ref_column_cell_word (n : Fin 14) : res_main_v111 V0 (ix2 r n) = BitVec.ofNat 32 (cell (columnSample V0 r n)) := by
  have e := ref_column_cell V0 r n
  unfold res_main_v111
  clean_types
  pointwise
  rw [e]
  exact fptosi_natCast _ (by have := cell_le (columnSample V0 r n); omega)

/-- The word of the cell after. -/
theorem ref_column_next_word (n : Fin 14) : res_main_v113 V0 (ix2 r n) = BitVec.ofNat 32 (next (columnSample V0 r n)) := by
  have e := ref_column_cell V0 r n
  unfold res_main_v113
  clean_types
  pointwise
  simp only [e, id_eq, sitofp_63]
  pointwise
  rw [← bits_63, clip_succ]
  exact fptosi_natCast _ (by have := next_le (columnSample V0 r n); omega)

end Cert.RoiAlign

end
-- ==== Proof.Reference.Image.lean ====
/- The image that the reference takes for a box. -/
module

public import proofs.«01_k».proof.Proof.Reference.Gather
public import proofs.«01_k».proof.Proof.Reference.Samples

@[expose] public section

set_option maxRecDepth 16384

noncomputable section

namespace Cert.RoiAlign

open Idealize.ShloMosaic Idealize.SL.Sem Cert.ReferenceIdeal Cert.ReferenceIdeal.Value

variable (V0 : Valuation τ sig (Elt Ideal)) (r : Fin 512)

/-- Row `y`, column `x` of channel `e` of image `b`, as the reference is given it. -/
def refImage (b : Fin 4) (e : Fin 192) (y x : Fin 64) : EReal := V0 (Proc.devRef .tc main_arg0) (ix4 b e y x)

/-- A word that is not negative is left as it is by the select that adds `k` to a negative one. -/
theorem keep_word (n : ℕ) (h : n ≤ 63) (k : BitVec 32) :
    Scalar.select (IntOp.cmpi .slt (BitVec.ofNat 32 n) 0#32) (IntOp.addi (BitVec.ofNat 32 n) k) (BitVec.ofNat 32 n)
      = BitVec.ofNat 32 n := by
  have e : ∀ n : Fin 64, IntOp.cmpi .slt (BitVec.ofNat 32 n.val) 0#32 = 0#1 := by decide +kernel
  rw [e ⟨n, by omega⟩]
  rfl

/-- The number that a small word holds. -/
theorem toNat_word (n : ℕ) (h : n ≤ 63) : (BitVec.ofNat 32 n).toInt.toNat = n := by
  have e : ∀ n : Fin 64, (BitVec.ofNat 32 n.val).toInt.toNat = n.val := by decide +kernel
  exact e ⟨n, by omega⟩

/-- A conjunction of bits that are all one. -/
theorem fold_andi_one {ι : Type} [DecidableEq ι] (s : Finset ι) (f : ι → BitVec 1) (h : ∀ i ∈ s, f i = 1#1) :
    Finset.fold IntOp.andi 1#1 f s = 1#1 := by
  induction s using Finset.induction_on with
  | empty => rfl
  | insert a s ha ih =>
    rw [Finset.fold_insert ha, h a (Finset.mem_insert_self a s), ih fun i hi => h i (Finset.mem_insert_of_mem hi)]
    rfl

/-- The word of the image number. -/
theorem ref_image_word (B : ℕ) (hB2 : B < 2) (hB : refField V0 r 0 * refField V0 r 0 = ((B : ℝ) : EReal)) :
    res_main_call0_v5 V0 (ix2 r 0) = BitVec.ofNat 32 B := by
  have e : res_main_v5 V0 (ix1 r) = BitVec.ofNat 32 B := by
    unfold res_main_v5
    clean_types
    pointwise
    have := fptosi_natCast B (by omega)
    rw [← hB] at this
    exact this
  unfold res_main_call0_v5
  clean_types
  pointwise
  rw [e]
  exact keep_word B (by omega) _

/-- The image that the reference takes. -/
theorem ref_image (B : ℕ) (hB2 : B < 2) (hB : refField V0 r 0 * refField V0 r 0 = ((B : ℝ) : EReal)) (e : Fin 192) (y x : Fin 64) :
    res_main_v78 V0 (ix4 r e y x) = refImage V0 ⟨B, by omega⟩ e y x := by
  have ew := ref_image_word V0 r B hB2 hB
  unfold res_main_v78
  clean_types
  pointwise
  rw [fold_andi_one, take_image]
  · have eb : min (res_main_call0_v5 V0 (ix2 r 0)).toInt.toNat 3 = B := by
      rw [ew, toNat_word B (by omega)]
      omega
    show V0 (Proc.devRef .tc main_arg0) (ix4 _ e y x) = refImage V0 ⟨B, by omega⟩ e y x
    exact congrArg (fun b => V0 (Proc.devRef .tc main_arg0) (ix4 b e y x)) (Fin.ext eb)
  · intro i _
    rw [show i = 0 from Subsingleton.elim _ _, ew]
    have e : ∀ B : Fin 2, IntOp.andi (IntOp.cmpi .sge (BitVec.ofNat 32 B.val) 0#32)
        (IntOp.cmpi .sle (BitVec.ofNat 32 B.val) 3#32) = 1#1 := by decide +kernel
    exact e ⟨B, hB2⟩

end Cert.RoiAlign

end
-- ==== Proof.Reference.Value.lean ====
/- What the reference computes. -/
module

public import proofs.«01_k».proof.Proof.Blend
public import proofs.«01_k».proof.Proof.Reference.Image
public import Idealize.ShloMosaic.Lib.WordArith

@[expose] public section

set_option maxRecDepth 16384

noncomputable section

namespace Cert.RoiAlign

open Idealize.ShloMosaic Idealize.SL.Sem Cert.ReferenceIdeal Cert.ReferenceIdeal.Value Cert.ReferenceIdeal.Gen

variable (V0 : Valuation τ sig (Elt Ideal)) (r : Fin 512)

/-- A value taken at the rows `a` and then at the columns `b` that words name. -/
theorem take_both (X : FVec Ideal S512x192x64x64 .f32) (ya xa : IVec S512x14 32) (e : Fin 192) (u v : Fin 14) (a b : ℕ)
    (ha : a ≤ 63) (hb : b ≤ 63) (hya : ya (ix2 r u) = BitVec.ofNat 32 a) (hxa : xa (ix2 r v) = BitVec.ofNat 32 b) :
    Host.gather gather_S512x192x14x64_S512x14x1_S512x192x14x14_12_3_0_0_3_2_1192141
        (Host.gather gather_S512x192x64x64_S512x14x1_S512x192x14x64_13_2_0_0_2_2_1192164 X
          (broadcastInDim S512x14x1 ![0, 1] bcast_S512x14_S512x14x1_0_1 (select (cmpi .slt ya
            (broadcastInDim S512x14 ![] bcast_S_S512x14 (constantI S_ 32 0#32))) (addi ya (broadcastInDim S512x14 ![] bcast_S_S512x14 (constantI S_ 32 64#32))) ya)))
        (broadcastInDim S512x14x1 ![0, 1] bcast_S512x14_S512x14x1_0_1 (select (cmpi .slt xa
            (broadcastInDim S512x14 ![] bcast_S_S512x14 (constantI S_ 32 0#32))) (addi xa (broadcastInDim S512x14 ![] bcast_S_S512x14 (constantI S_ 32 64#32))) xa))
        (ix4 r e u v)
      = X (ix4 r e ⟨a, by omega⟩ ⟨b, by omega⟩) := by
  rw [take_column, take_row]
  refine congrArg X ?_
  congr 1
  · refine Fin.ext ?_
    pointwise
    rw [hya, keep_word a ha, toNat_word a ha]
    omega
  · refine Fin.ext ?_
    pointwise
    rw [hxa, keep_word b hb, toNat_word b hb]
    omega

/-- The four weighted neighbours of the sample at row position `u`, column position `v`. -/
theorem ref_corners (B : ℕ) (hB2 : B < 2) (hB : refField V0 r 0 * refField V0 r 0 = ((B : ℝ) : EReal)) (e : Fin 192)
    (u v : Fin 14) :
    res_main_v204 V0 (ix4 r e u v)
      = corners 0 (by norm_num) 0 (by norm_num) (rowSample V0 r u) (columnSample V0 r v)
          (fun y x : Fin 64 => refImage V0 ⟨B, by omega⟩ e y x) := by
  have hc1 := cell_le (rowSample V0 r u)
  have hn1 := next_le (rowSample V0 r u)
  have hc2 := cell_le (columnSample V0 r v)
  have hn2 := next_le (columnSample V0 r v)
  unfold res_main_v204
  clean_types
  pointwise
  rw [take_both r _ _ _ e u v _ _ hc1 hc2 (ref_row_cell_word V0 r u) (ref_column_cell_word V0 r v),
    take_both r _ _ _ e u v _ _ hc1 hn2 (ref_row_cell_word V0 r u) (ref_column_next_word V0 r v),
    take_both r _ _ _ e u v _ _ hn1 hc2 (ref_row_next_word V0 r u) (ref_column_cell_word V0 r v),
    take_both r _ _ _ e u v _ _ hn1 hn2 (ref_row_next_word V0 r u) (ref_column_next_word V0 r v),
    ref_row_rest, ref_column_rest, ref_row_frac, ref_column_frac]
  simp only [ref_image V0 r B hB2 hB]
  unfold corners
  simp only [Nat.zero_add]

/-- A conjunction of bits is one just when each of them is. -/
theorem fold_andi_iff {ι : Type} [DecidableEq ι] (s : Finset ι) (f : ι → BitVec 1) :
    Finset.fold IntOp.andi 1#1 f s = 1#1 ↔ ∀ i ∈ s, f i = 1#1 := by
  have e : ∀ a b : BitVec 1, IntOp.andi a b = 1#1 ↔ a = 1#1 ∧ b = 1#1 := by decide
  induction s using Finset.induction_on with
  | empty => simp
  | insert a s ha ih =>
    rw [Finset.fold_insert ha, e, Finset.forall_mem_insert]
    exact and_congr Iff.rfl ih

/-- Two tests of a value, joined. -/
theorem andi_tests (p q : Prop) [Decidable p] [Decidable q] :
    IntOp.andi (BitVec.ofBool (decide p)) (BitVec.ofBool (decide q)) = 1#1 ↔ p ∧ q := by
  by_cases hp : p <;> by_cases hq : q <;> simp [hp, hq, IntOp.andi]

/-- The range test of fourteen samples that lie two to a bin. -/
theorem covered_samples (y b : EReal) (hb : 0 < b) :
    (∀ n : Fin 14, ((-1 : ℝ) : EReal) ≤ sample y b (n.val / 2) (n.val % 2)
      ∧ sample y b (n.val / 2) (n.val % 2) ≤ ((64 : ℝ) : EReal)) ↔ Covered y b := by
  rw [covered_iff y b hb]
  constructor
  · intro h p i
    have e := h ⟨p.val * 2 + i.val, by omega⟩
    have e1 : (p.val * 2 + i.val) / 2 = p.val := by omega
    have e2 : (p.val * 2 + i.val) % 2 = i.val := by omega
    simp only [e1, e2] at e
    exact e
  · intro h n
    exact h ⟨n.val / 2, by omega⟩ ⟨n.val % 2, by omega⟩

/-- A test of all samples of a box. -/
theorem test_samples (X : FVec Ideal S512x14 .f32) (lo hi : BitVec 32) :
    Host.reduce IntOp.andi (andi (cmpf .oge X (broadcastInDim S512x14 ![] bcast_S_S512x14 (constant S_ .f32 lo)))
          (cmpf .ole X (broadcastInDim S512x14 ![] bcast_S_S512x14 (constant S_ .f32 hi))))
        (constantI S_ 1 1#1) reducesTo_S512x14_S512_d1 h_S_ (ix1 r) = 1#1
      ↔ ∀ n : Fin 14, Ideal.ofBits .f32 lo ≤ X (ix2 r n) ∧ X (ix2 r n) ≤ Ideal.ofBits .f32 hi := by
  pointwise
  rw [fold_andi_iff]
  exact ⟨fun h n => (andi_tests _ _).1 (h n (Finset.mem_univ n)), fun h n _ => (andi_tests _ _).2 (h n)⟩

/-- The reference's result as an operation on its samples' values and on their positions along both axes: the sums of
    the samples of each bin divided by four where every sample is in range, and zero elsewhere. -/
def refResult (Y X : FVec Ideal S512x14 .f32) (W : FVec Ideal S512x192x14x14 .f32) : FVec Ideal S512x192x7x7 .f32 :=
  select (broadcastInDim S512x192x7x7 ![0] bcast_S512_S512x192x7x7_0 (andi
      (Host.reduce IntOp.andi (andi (cmpf .oge Y (broadcastInDim S512x14 ![] bcast_S_S512x14 (constant S_ .f32 0xBF800000#32)))
        (cmpf .ole Y (broadcastInDim S512x14 ![] bcast_S_S512x14 (constant S_ .f32 0x42800000#32))))
        (constantI S_ 1 1#1) reducesTo_S512x14_S512_d1 h_S_)
      (Host.reduce IntOp.andi (andi (cmpf .oge X (broadcastInDim S512x14 ![] bcast_S_S512x14 (constant S_ .f32 0xBF800000#32)))
        (cmpf .ole X (broadcastInDim S512x14 ![] bcast_S_S512x14 (constant S_ .f32 0x42800000#32))))
        (constantI S_ 1 1#1) reducesTo_S512x14_S512_d1 h_S_)))
    (Host.divf (Host.reduceAdd (shapeCast _ (Host.reduceAdd (shapeCast _ W shapeCasts_S512x192x14x14_S512x192x7x2x14)
        (constant S_ .f32 0x00000000#32) reducesTo_S512x192x7x2x14_S512x192x7x14_d3 h_S_)
        shapeCasts_S512x192x7x14_S512x192x7x7x2) (constant S_ .f32 0x00000000#32)
        reducesTo_S512x192x7x7x2_S512x192x7x7_d4 h_S_)
      (broadcastInDim S512x192x7x7 ![] bcast_S_S512x192x7x7 (constant S_ .f32 0x40800000#32)))
    (broadcastInDim S512x192x7x7 ![1, 2, 3] bcast_S192x7x7_S512x192x7x7_1_2_3
      (broadcastInDim S192x7x7 ![] bcast_S_S192x7x7 (constant S_ .f32 0x00000000#32)))

/-- A select by the conjunction of two bits. -/
theorem select_andi (a b : BitVec 1) (p q : Prop) (ha : a = 1#1 ↔ p) (hb : b = 1#1 ↔ q) [Decidable (p ∧ q)]
    (x y : EReal) :
    Scalar.select (IntOp.andi a b) x y = if p ∧ q then x else y := by
  have e : ∀ a b : BitVec 1, IntOp.andi a b = 1#1 ↔ a = 1#1 ∧ b = 1#1 := by decide
  by_cases h : p ∧ q
  · rw [if_pos h, (e a b).2 ⟨ha.2 h.1, hb.2 h.2⟩]
    rfl
  · rw [if_neg h]
    exact if_neg fun h' => h ⟨ha.1 ((e a b).1 h').1, hb.1 ((e a b).1 h').2⟩

/-- That operation at one element, where `P` and `Q` say that the samples along each axis are in range. -/
theorem refResult_apply (Y X : FVec Ideal S512x14 .f32) (W : FVec Ideal S512x192x14x14 .f32) (e : Fin 192) (p j : Fin 7)
    (P Q : Prop) [Decidable (P ∧ Q)]
    (hP : (∀ n : Fin 14, ((-1 : ℝ) : EReal) ≤ Y (ix2 r n) ∧ Y (ix2 r n) ≤ ((64 : ℝ) : EReal)) ↔ P)
    (hQ : (∀ n : Fin 14, ((-1 : ℝ) : EReal) ≤ X (ix2 r n) ∧ X (ix2 r n) ≤ ((64 : ℝ) : EReal)) ↔ Q) :
    refResult Y X W (ix4 r e p j)
      = if P ∧ Q then
          Ideal.div (∑ v : Fin 2, ∑ u : Fin 2, W (ix4 r e ⟨p.val * 2 + u.val, by omega⟩ ⟨j.val * 2 + v.val, by omega⟩))
            ((4 : ℝ) : EReal)
        else 0 := by
  have hY := test_samples r Y 0xBF800000#32 0x42800000#32
  have hX := test_samples r X 0xBF800000#32 0x42800000#32
  rw [bits_minus_one, bits_64] at hY hX
  refine Eq.trans ?_ (select_andi _ _ _ _ (hY.trans hP) (hX.trans hQ) _ _)
  unfold refResult
  rw [← bits_four]
  pointwise

open Classical in
/-- What the reference computes for bin (`p`, `j`) of box `r` at channel `e`, where the square of the box's image number
    is `B`: the sum of the four samples of the bin divided by four, if the box passes the test along both axes, and zero
    otherwise. -/
theorem ref_value (B : ℕ) (hB2 : B < 2) (hB : refField V0 r 0 * refField V0 r 0 = ((B : ℝ) : EReal)) (e : Fin 192)
    (p j : Fin 7) :
    refResult (res_main_v56 V0) (res_main_v77 V0) (res_main_v204 V0) (ix4 r e p j)
      = if Covered (start (refField V0 r 2)) (bin (refField V0 r 2) (refField V0 r 4))
            ∧ Covered (start (refField V0 r 1)) (bin (refField V0 r 1) (refField V0 r 3)) then
          Ideal.div (∑ v : Fin 2, ∑ u : Fin 2, corners 0 (by norm_num) 0 (by norm_num)
              (sample (start (refField V0 r 2)) (bin (refField V0 r 2) (refField V0 r 4)) p u)
              (sample (start (refField V0 r 1)) (bin (refField V0 r 1) (refField V0 r 3)) j v)
              (fun y x : Fin 64 => refImage V0 ⟨B, by omega⟩ e y x)) ((4 : ℝ) : EReal)
        else 0 := by
  rw [refResult_apply r _ _ _ e p j
    (Covered (start (refField V0 r 2)) (bin (refField V0 r 2) (refField V0 r 4)))
    (Covered (start (refField V0 r 1)) (bin (refField V0 r 1) (refField V0 r 3)))
    (by simp only [ref_row_sample, rowSample]; exact covered_samples _ _ (bin_pos _ _))
    (by simp only [ref_column_sample, columnSample]; exact covered_samples _ _ (bin_pos _ _))]
  simp only [ref_corners V0 r B hB2 hB e, rowSample, columnSample]
  have e1 : ∀ (p : Fin 7) (u : Fin 2), (p.val * 2 + u.val) / 2 = p.val := fun p u => by omega
  have e2 : ∀ (p : Fin 7) (u : Fin 2), (p.val * 2 + u.val) % 2 = u.val := fun p u => by omega
  simp only [e1, e2]

end Cert.RoiAlign

end
-- ==== Proof.Equation.lean ====
/- The kernel and the reference compute the same value for each bin of each box. -/
module

public import proofs.«01_k».proof.Proof.Array.Blocks
public import proofs.«01_k».proof.Proof.Reference.Value

@[expose] public section

set_option maxRecDepth 16384

noncomputable section

namespace Cert.RoiAlign

open Idealize.ShloMosaic Idealize.SL.Sem

/-- The samples of bin `p` as the kernel places them. -/
def places (y b : EReal) (p : ℕ) (i : Fin 2) : EReal := place y b p (if i = 0 then 1 / 4 else 3 / 4)

/-- In a box that passes the test the reference's samples lie where the kernel places them. -/
theorem sample_places (y b : EReal) (hb : 0 < b) (h : Covered y b) (p : ℕ) (i : Fin 2) :
    sample y b p i = places y b p i := by
  fin_cases i
  · exact sample_zero y b hb h p
  · exact sample_one y b hb h p

/-- Four samples of the image number `B`, read from the two images stacked one above the other, are those read from the
    image itself. -/
theorem corners_stacked (B : ℕ) (hB : B < 2) (s t : EReal) (D : Fin 128 → Fin 64 → EReal) (I : Fin 64 → Fin 64 → EReal)
    (h : ∀ y x : Fin 64, D ⟨B * 64 + y.val, by omega⟩ x = I y x) :
    corners (B * 64) (by omega) 0 (by norm_num) s t D = corners 0 (by norm_num) 0 (by norm_num) s t I := by
  have e : ∀ (k l : ℕ) (hk : k < 64) (hl : 0 + l < 64), D ⟨B * 64 + k, by omega⟩ ⟨0 + l, hl⟩ = I ⟨0 + k, by omega⟩ ⟨0 + l, hl⟩ :=
    fun k l hk hl => (h ⟨k, hk⟩ ⟨0 + l, hl⟩).trans (congrArg (fun a => I a ⟨0 + l, hl⟩) (Fin.ext (Nat.zero_add k).symm))
  have hs := cell_le s
  have hs' := next_le s
  have ht := cell_le t
  have ht' := next_le t
  unfold corners
  rw [e _ _ (by omega) (by omega), e _ _ (by omega) (by omega), e _ _ (by omega) (by omega), e _ _ (by omega) (by omega)]

open Classical in
/-- The kernel's value of a bin is the reference's. -/
theorem pooled_eq (B : ℕ) (hB : B < 2) (left top right bottom : EReal) (D : Fin 128 → Fin 64 → EReal)
    (I : Fin 64 → Fin 64 → EReal) (h : ∀ y x : Fin 64, D ⟨B * 64 + y.val, by omega⟩ x = I y x) (p j : ℕ) :
    pooled (B * 64) left top right bottom D p j
      = if Covered (start top) (bin top bottom) ∧ Covered (start left) (bin left right) then
          Ideal.div (∑ v : Fin 2, ∑ u : Fin 2, corners 0 (by norm_num) 0 (by norm_num)
              (sample (start top) (bin top bottom) p u) (sample (start left) (bin left right) j v) I) ((4 : ℝ) : EReal)
        else 0 := by
  unfold pooled
  split_ifs with hc
  · refine (blend (B * 64) (by omega) 0 (by norm_num) (places (start top) (bin top bottom) p)
      (places (start left) (bin left right) j) D).trans ?_
    refine congrArg (Ideal.div · _) (Finset.sum_congr rfl fun v _ => Finset.sum_congr rfl fun u _ => ?_)
    rw [corners_stacked B hB _ _ D I h, sample_places _ _ (bin_pos _ _) hc.1, sample_places _ _ (bin_pos _ _) hc.2]
  · rfl

/-- The kernel's result and the reference's agree at every element, on memories that hold the same images and boxes,
    where the square of each box's image number is zero or one. -/
theorem results_eq (m : (ℓ : Loc KernelIdeal.nD KernelIdeal.τ KernelIdeal.sig) → Buf (Elt Ideal) ℓ)
    (c : Dev KernelIdeal.nD) (V : Valuation ReferenceIdeal.τ ReferenceIdeal.sig (Elt Ideal))
    (h0 : V (Proc.devRef .tc ReferenceIdeal.main_arg0) = m (c.tc.loc KernelIdeal.main_arg0))
    (h1 : V (Proc.devRef .tc ReferenceIdeal.main_arg1) = m (c.tc.loc KernelIdeal.main_arg1))
    (hB : ∀ r : Fin 512, ∃ B : ℕ, B < 2 ∧ boxField m c r 0 * boxField m c r 0 = ((B : ℝ) : EReal)) :
    refResult (ReferenceIdeal.Value.res_main_v56 V) (ReferenceIdeal.Value.res_main_v77 V) (ReferenceIdeal.Value.res_main_v204 V)
      = Pipeline.afterTail₀ KernelIdeal.cfgs (KernelIdeal.Gen.dats m) 0 (KernelIdeal.Gen.V0 m) [KernelIdeal.Gen.hostOps1] c
          KernelIdeal.main_v9 := by
  have hf : ∀ (r : Fin 512) (k : Fin 5), refField V r k = boxField m c r k := fun r k => congrFun h1 (ix2 r k)
  funext i
  obtain ⟨r, e, p, j, rfl⟩ : ∃ (r : Fin 512) (e : Fin 192) (p j : Fin 7), i = ix4 r e p j :=
    ⟨i 0, i 1, i 2, i 3, by funext a; fin_cases a <;> rfl⟩
  obtain ⟨B, hB2, hB⟩ := hB r
  rw [kernel_value m c r e p j B hB, ref_value V r B hB2 (by rw [hf]; exact hB), hf, hf, hf, hf]
  refine (pooled_eq B hB2 _ _ _ _ _ _ (fun y x => ?_) p j).symm
  refine (images_apply m c ⟨B, hB2⟩ y x e).trans ?_
  exact (congrFun h0 _).symm

end Cert.RoiAlign

end
-- ==== Proof.Precondition.lean ====
/- What the precondition says of each box. -/
module

public import proofs.«01_k».proof.Defs
public import proofs.«01_k».proof.Proof.Gen.Pre_batch_is_0_or_1
public import proofs.«01_k».proof.Proof.Reference.Value

@[expose] public section

set_option maxRecDepth 16384

noncomputable section

namespace Cert.RoiAlign

open Idealize.ShloMosaic Idealize.SL.Sem Cert.Pre_batch_is_0_or_1 Cert.Pre_batch_is_0_or_1.Gen

/-- A disjunction of two tests passes if and only if one of them does. -/
theorem ori_tests (p q : Prop) [Decidable p] [Decidable q] :
    IntOp.ori (BitVec.ofBool (decide p)) (BitVec.ofBool (decide q)) = 1#1 ↔ p ∨ q := by
  by_cases hp : p <;> by_cases hq : q <;> simp [hp, hq, IntOp.ori]

/-- Under the precondition the square of a box's image number is zero or one. -/
theorem image_square (A : FVec Ideal S4x192x64x64 .f32) (X : FVec Ideal S512x5 .f32) (h : fn A X = fun _ => 1#1)
    (r : Fin 512) : ∃ B : ℕ, B < 2 ∧ ((X (ix2 r 0) : EReal) * (X (ix2 r 0) : EReal) : EReal) = ((B : ℝ) : EReal) := by
  have h0 := congrFun h ix0
  unfold fn at h0
  pointwise at h0
  rcases (ori_tests _ _).1 ((fold_andi_iff _ _).1 h0 r (Finset.mem_univ r)) with h1 | h1
  · exact ⟨0, by norm_num, h1.trans (by norm_num)⟩
  · exact ⟨1, by norm_num, h1.trans (by norm_num)⟩

end Cert.RoiAlign

end
-- ==== Proof.Algebraic.lean ====
/- The claim about values: the kernel and the reference leave the same result. -/
module

public import proofs.«01_k».proof.Proof.Equation
public import proofs.«01_k».proof.Proof.Precondition
public import proofs.«01_k».proof.Proof.Gen.KernelIdeal.Frame
public import proofs.«01_k».proof.Proof.Gen.ReferenceIdeal.Run
public import Idealize.ShloMosaic.Lib.Claim
public import Idealize.ShloMosaic.Lib.Pipeline.ValueKit

@[expose] public section

set_option maxRecDepth 16384

noncomputable section

namespace Cert.RoiAlign

open Idealize.ShloMosaic Idealize.SL.Sem

/-- From the same images and boxes, where the square of each box's image number is zero or one, the kernel and the
    reference leave the same result. -/
theorem algebraic : Cert.algebraic_KernelIdeal_ReferenceIdeal_pre_batch_is_0_or_1 := by
  pair_intro
  · run_from Cert.KernelIdeal.Gen.run_main m g
    · exact KernelIdeal.Gen.W_main_arg0 m (KernelIdeal.Gen.dats m) c
    · exact KernelIdeal.Gen.W_main_arg1 m (KernelIdeal.Gen.dats m) c
  · run_from Cert.ReferenceIdeal.Value.run m' g'
    exact results_eq m c (StableHlo.launchContents m' c) (hagree c).1 (hagree c).2
      fun r => image_square _ _ (hpre c) r

end Cert.RoiAlign

end
-- ==== Proof.lean ====
/- The proof of the certificate's claim.

   The kernel pools each box's four samples per bin by two weighted sums, one along the rows of two stacked images and
   one along the columns; the reference gathers the samples' neighbours and adds them up. The two agree on boxes of
   image zero or one.

   * `Proof/Sample.lean`: a position's cell, fraction and tent weight.
   * `Proof/Cover.lean`: where the samples of a box lie and which boxes are in range.
   * `Proof/Blend.lean`: the weighted sums are the mean of the interpolated samples.
   * `Proof/Block/`: what one run of the kernel's body stores.
   * `Proof/Array/Blocks.lean`: what the kernel's array and its result hold.
   * `Proof/Reference/`: what the reference computes, and its run.
   * `Proof/Precondition.lean`, `Proof/Equation.lean`, `Proof/Algebraic.lean`: the two results are equal. -/
module

public import proofs.«01_k».proof.Defs
public import proofs.«01_k».proof.Proof.Gen.Kernel.Frame
public import proofs.«01_k».proof.Proof.Gen.KernelIdeal.Frame
public import proofs.«01_k».proof.Proof.Reference.Frame
public import proofs.«01_k».proof.Proof.Algebraic

@[expose] public section

noncomputable section

namespace Cert.Proof

open Idealize.ShloMosaic Idealize.SL.Sem

/-- The certificate's claim: the kernel, its idealization and the reference run to their end and leave their arguments
    as they were; the idealization is the kernel's own text; and the idealization and the reference leave the same
    result wherever the precondition holds. -/
theorem claim : Cert.Claim :=
  ⟨Cert.Kernel.Gen.facts, Cert.KernelIdeal.Gen.facts, Cert.ReferenceIdeal.Gen.facts, Cert.Pre_batch_is_0_or_1.Gen.facts,
    fun m g _ => Cert.Kernel.Gen.frame m g,
    fun m g _ => Cert.KernelIdeal.Gen.frame m g,
    fun m g _ => Cert.KernelIdeal.Gen.frame m g,
    Cert.RoiAlign.reference_frame,
    Cert.RoiAlign.reference_frame_pre,
    trivial,
    Cert.RoiAlign.algebraic⟩

end Cert.Proof

end
